-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S32x512 : Shape := ⟨2, ![32, 512]⟩
abbrev S512x512 : Shape := ⟨2, ![512, 512]⟩
abbrev S16x32x512 : Shape := ⟨3, ![16, 32, 512]⟩
abbrev S16 : Shape := ⟨1, ![16]⟩
abbrev S_ : Shape := ⟨0, ![]⟩
abbrev S512x32 : Shape := ⟨2, ![512, 32]⟩
abbrev S512 : Shape := ⟨1, ![512]⟩
abbrev S1x256x512 : Shape := ⟨3, ![1, 256, 512]⟩
abbrev S256x512 : Shape := ⟨2, ![256, 512]⟩
abbrev S1x32x512 : Shape := ⟨3, ![1, 32, 512]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S2x256x512, .bf16⟩
  | .hbm, ⟨4, _⟩ => ⟨S32x512, .f32⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S32x512, .f32⟩
  | .local _ .vmem, ⟨4, _⟩ => ⟨S512x512, .f32⟩
  | .local _ .vmem, ⟨5, _⟩ => ⟨S16x32x512, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v122 : BitVec 32 := Scalar.muli v2 c32_i32
  let v123 : Index := Scalar.indexCast v122
  let c0_85 : Index := 0#32
  ![v123.toNat, 0]
def k0_off2 (d0 : Dev nD) (c1_i32_89 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v128 : BitVec 32 := Scalar.addi v2 c1_i32_89
  let c16_i32_90 : BitVec 32 := 16#32
  let v129 : BitVec 32 := Scalar.remsi v128 c16_i32_90
  let c32_i32_91 : BitVec 32 := 32#32
  let v130 : BitVec 32 := Scalar.muli v129 c32_i32_91
  let c0_i32_99 : BitVec 32 := 0#32
  ![v130.toNat, 0]
def k0_dev16 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_89 : BitVec 32 := 1#32
  let v128 : BitVec 32 := Scalar.addi v2 c1_i32_89
  let c16_i32_90 : BitVec 32 := 16#32
  let v129 : BitVec 32 := Scalar.remsi v128 c16_i32_90
  let c1_i32_95 : BitVec 32 := 1#32
  let v131 : BitVec 32 := Scalar.muli v129 c1_i32_95
  let v132 : BitVec 32 := Scalar.addi c0_i32_96 v131
  v132.toNat
def k0_dev17 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_100 : BitVec 32 := 2#32
  let v140 : BitVec 32 := Scalar.addi v2 c2_i32_100
  let c16_i32_101 : BitVec 32 := 16#32
  let v141 : BitVec 32 := Scalar.remsi v140 c16_i32_101
  let c1_i32_106 : BitVec 32 := 1#32
  let v143 : BitVec 32 := Scalar.muli v141 c1_i32_106
  let v144 : BitVec 32 := Scalar.addi c0_i32_107 v143
  v144.toNat
def k0_dev18 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_111 : BitVec 32 := 3#32
  let v152 : BitVec 32 := Scalar.addi v2 c3_i32_111
  let c16_i32_112 : BitVec 32 := 16#32
  let v153 : BitVec 32 := Scalar.remsi v152 c16_i32_112
  let c1_i32_117 : BitVec 32 := 1#32
  let v155 : BitVec 32 := Scalar.muli v153 c1_i32_117
  let v156 : BitVec 32 := Scalar.addi c0_i32_118 v155
  v156.toNat
def k0_dev19 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_122 : BitVec 32 := 4#32
  let v164 : BitVec 32 := Scalar.addi v2 c4_i32_122
  let c16_i32_123 : BitVec 32 := 16#32
  let v165 : BitVec 32 := Scalar.remsi v164 c16_i32_123
  let c1_i32_128 : BitVec 32 := 1#32
  let v167 : BitVec 32 := Scalar.muli v165 c1_i32_128
  let v168 : BitVec 32 := Scalar.addi c0_i32_129 v167
  v168.toNat
def k0_dev20 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_133 : BitVec 32 := 5#32
  let v176 : BitVec 32 := Scalar.addi v2 c5_i32_133
  let c16_i32_134 : BitVec 32 := 16#32
  let v177 : BitVec 32 := Scalar.remsi v176 c16_i32_134
  let c1_i32_139 : BitVec 32 := 1#32
  let v179 : BitVec 32 := Scalar.muli v177 c1_i32_139
  let v180 : BitVec 32 := Scalar.addi c0_i32_140 v179
  v180.toNat
def k0_dev21 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_144 : BitVec 32 := 6#32
  let v188 : BitVec 32 := Scalar.addi v2 c6_i32_144
  let c16_i32_145 : BitVec 32 := 16#32
  let v189 : BitVec 32 := Scalar.remsi v188 c16_i32_145
  let c1_i32_150 : BitVec 32 := 1#32
  let v191 : BitVec 32 := Scalar.muli v189 c1_i32_150
  let v192 : BitVec 32 := Scalar.addi c0_i32_151 v191
  v192.toNat
def k0_dev22 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_155 : BitVec 32 := 7#32
  let v200 : BitVec 32 := Scalar.addi v2 c7_i32_155
  let c16_i32_156 : BitVec 32 := 16#32
  let v201 : BitVec 32 := Scalar.remsi v200 c16_i32_156
  let c1_i32_161 : BitVec 32 := 1#32
  let v203 : BitVec 32 := Scalar.muli v201 c1_i32_161
  let v204 : BitVec 32 := Scalar.addi c0_i32_162 v203
  v204.toNat
def k0_dev23 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_166 : BitVec 32 := 8#32
  let v212 : BitVec 32 := Scalar.addi v2 c8_i32_166
  let c16_i32_167 : BitVec 32 := 16#32
  let v213 : BitVec 32 := Scalar.remsi v212 c16_i32_167
  let c1_i32_172 : BitVec 32 := 1#32
  let v215 : BitVec 32 := Scalar.muli v213 c1_i32_172
  let v216 : BitVec 32 := Scalar.addi c0_i32_173 v215
  v216.toNat
def k0_dev24 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_177 : BitVec 32 := 9#32
  let v224 : BitVec 32 := Scalar.addi v2 c9_i32_177
  let c16_i32_178 : BitVec 32 := 16#32
  let v225 : BitVec 32 := Scalar.remsi v224 c16_i32_178
  let c1_i32_183 : BitVec 32 := 1#32
  let v227 : BitVec 32 := Scalar.muli v225 c1_i32_183
  let v228 : BitVec 32 := Scalar.addi c0_i32_184 v227
  v228.toNat
def k0_dev25 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_188 : BitVec 32 := 10#32
  let v236 : BitVec 32 := Scalar.addi v2 c10_i32_188
  let c16_i32_189 : BitVec 32 := 16#32
  let v237 : BitVec 32 := Scalar.remsi v236 c16_i32_189
  let c1_i32_194 : BitVec 32 := 1#32
  let v239 : BitVec 32 := Scalar.muli v237 c1_i32_194
  let v240 : BitVec 32 := Scalar.addi c0_i32_195 v239
  v240.toNat
def k0_dev26 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_199 : BitVec 32 := 11#32
  let v248 : BitVec 32 := Scalar.addi v2 c11_i32_199
  let c16_i32_200 : BitVec 32 := 16#32
  let v249 : BitVec 32 := Scalar.remsi v248 c16_i32_200
  let c1_i32_205 : BitVec 32 := 1#32
  let v251 : BitVec 32 := Scalar.muli v249 c1_i32_205
  let v252 : BitVec 32 := Scalar.addi c0_i32_206 v251
  v252.toNat
def k0_dev27 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_210 : BitVec 32 := 12#32
  let v260 : BitVec 32 := Scalar.addi v2 c12_i32_210
  let c16_i32_211 : BitVec 32 := 16#32
  let v261 : BitVec 32 := Scalar.remsi v260 c16_i32_211
  let c1_i32_216 : BitVec 32 := 1#32
  let v263 : BitVec 32 := Scalar.muli v261 c1_i32_216
  let v264 : BitVec 32 := Scalar.addi c0_i32_217 v263
  v264.toNat
def k0_dev28 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_221 : BitVec 32 := 13#32
  let v272 : BitVec 32 := Scalar.addi v2 c13_i32_221
  let c16_i32_222 : BitVec 32 := 16#32
  let v273 : BitVec 32 := Scalar.remsi v272 c16_i32_222
  let c1_i32_227 : BitVec 32 := 1#32
  let v275 : BitVec 32 := Scalar.muli v273 c1_i32_227
  let v276 : BitVec 32 := Scalar.addi c0_i32_228 v275
  v276.toNat
def k0_dev29 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_232 : BitVec 32 := 14#32
  let v284 : BitVec 32 := Scalar.addi v2 c14_i32_232
  let c16_i32_233 : BitVec 32 := 16#32
  let v285 : BitVec 32 := Scalar.remsi v284 c16_i32_233
  let c1_i32_238 : BitVec 32 := 1#32
  let v287 : BitVec 32 := Scalar.muli v285 c1_i32_238
  let v288 : BitVec 32 := Scalar.addi c0_i32_239 v287
  v288.toNat
def k0_dev30 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_243 : BitVec 32 := 15#32
  let v296 : BitVec 32 := Scalar.addi v2 c15_i32_243
  let c16_i32_244 : BitVec 32 := 16#32
  let v297 : BitVec 32 := Scalar.remsi v296 c16_i32_244
  let c1_i32_249 : BitVec 32 := 1#32
  let v299 : BitVec 32 := Scalar.muli v297 c1_i32_249
  let v300 : BitVec 32 := Scalar.addi c0_i32_250 v299
  v300.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S512 : Shape := ⟨1, ![512]⟩
abbrev S32 : Shape := ⟨1, ![32]⟩
abbrev S1x32 : Shape := ⟨2, ![1, 32]⟩
abbrev S512x32 : Shape := ⟨2, ![512, 32]⟩
abbrev S_ : Shape := ⟨0, ![]⟩
abbrev S512x256x512 : Shape := ⟨3, ![512, 256, 512]⟩
abbrev S512x512 : Shape := ⟨2, ![512, 512]⟩

abbrev nBuf : Space → Nat
  | .hbm => 39
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S32x256x512, .bf16⟩
  | .hbm, ⟨4, _⟩ => ⟨S512, .i32⟩
  | .hbm, ⟨5, _⟩ => ⟨S512x1, .i32⟩
  | .hbm, ⟨6, _⟩ => ⟨S32, .i32⟩
  | .hbm, ⟨7, _⟩ => ⟨S1x32, .i32⟩
  | .hbm, ⟨8, _⟩ => ⟨S512x32, .i32⟩
  | .hbm, ⟨9, _⟩ => ⟨S512x32, .i32⟩
  | .hbm, ⟨10, _⟩ => ⟨S512x32, .i1⟩
  | .hbm, ⟨11, _⟩ => ⟨S512x32, .i32⟩
  | .hbm, ⟨12, _⟩ => ⟨S_, .i32⟩
  | .hbm, ⟨13, _⟩ => ⟨S_, .i32⟩
  | .hbm, ⟨14, _⟩ => ⟨S512x32, .i32⟩
  | .hbm, ⟨15, _⟩ => ⟨S_, .i32⟩
  | .hbm, ⟨16, _⟩ => ⟨S512x32, .i32⟩
  | .hbm, ⟨17, _⟩ => ⟨S512x32, .i1⟩
  | .hbm, ⟨18, _⟩ => ⟨S512x32, .i1⟩
  | .hbm, ⟨19, _⟩ => ⟨S_, .i1⟩
  | .hbm, ⟨20, _⟩ => ⟨S512, .i1⟩
  | .hbm, ⟨21, _⟩ => ⟨S32x256x512, .f32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S512x256x512, .f32⟩
  | .hbm, ⟨31, _⟩ => ⟨S512x256, .f32⟩
  | .hbm, ⟨32, _⟩ => ⟨S512x512, .f32⟩
  | .hbm, ⟨33, _⟩ => ⟨S512x1, .i1⟩
  | .hbm, ⟨34, _⟩ => ⟨S_, .f32⟩
  | .hbm, ⟨35, _⟩ => ⟨S_, .f32⟩
  | .hbm, ⟨36, _⟩ => ⟨S512x512, .i1⟩
  | .hbm, ⟨37, _⟩ => ⟨S512x512, .f32⟩
  | .hbm, ⟨38, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Protocol.lean ====
/-
# The exchange's protocol

Sixteen devices each hold the 16 row blocks of a local partial sum and exchange them: device `c` keeps its own
block and, for every distance `d = 1 … 15`, copies the block of the device `d` places after it into slot `d` of that
device's receiving buffer. Before any copy each device signals every other one on the barrier semaphore, and waits for
fifteen signals.

This module fixes who pays whom and what each payment hands over:

* a signal of `p` to `q` hands `q` the slot of `p`'s receiving buffer that `q` is going to write;
* the arrival of the copy at distance `d` hands the receiver its slot `d`, holding the sender's rows;
* the departure of a copy hands the sender its rows back, unchanged.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh: distances -/

/-- The device `d` places after `c`. -/
def peer (c : Dev nD) (d : Fin 16) : Dev nD := ⟨(c.val + d.val) % 16, Nat.mod_lt _ (by decide)⟩
/-- The device `d` places before `c`. -/
def prev (c : Dev nD) (d : Fin 16) : Dev nD := ⟨(c.val + 16 - d.val) % 16, Nat.mod_lt _ (by decide)⟩
/-- The distance back. -/
def opp (d : Fin 16) : Fin 16 := ⟨(16 - d.val) % 16, Nat.mod_lt _ (by decide)⟩

theorem prev_peer (c : Dev nD) (d : Fin 16) : prev (peer c d) d = c := by
  have : c.val < 16 := c.isLt; have := d.isLt; exact Fin.ext (by simp only [prev, peer]; omega)
theorem peer_prev (c : Dev nD) (d : Fin 16) : peer (prev c d) d = c := by
  have : c.val < 16 := c.isLt; have := d.isLt; exact Fin.ext (by simp only [prev, peer]; omega)
theorem peer_opp (c : Dev nD) (d : Fin 16) : peer c (opp d) = prev c d := by
  have : c.val < 16 := c.isLt; have := d.isLt; exact Fin.ext (by simp only [prev, peer, opp]; omega)
theorem peer_peer_opp (c : Dev nD) (d : Fin 16) : peer (peer c d) (opp d) = c := by
  rw [peer_opp, prev_peer]
theorem opp_opp (d : Fin 16) : opp (opp d) = d := by
  have := d.isLt; exact Fin.ext (by simp only [opp]; omega)
theorem opp_ne_zero {d : Fin 16} (h : 0 < d.val) : 0 < (opp d).val := by
  have := d.isLt; simp only [opp]; omega
theorem peer_inj_right (c : Dev nD) : Function.Injective (peer c) := fun a b h => by
  have : c.val < 16 := c.isLt; have := a.isLt; have := b.isLt
  have h := congrArg Fin.val h; simp only [peer] at h; exact Fin.ext (by omega)

/-- Moving every device `d` places on. -/
def shift (d : Fin 16) : Dev nD ≃ Dev nD := ⟨fun c => peer c d, fun c => prev c d, fun c => prev_peer c d, fun c => peer_prev c d⟩
/-- Turning every distance round. -/
def turn : Fin 16 ≃ Fin 16 := ⟨opp, opp, opp_opp, opp_opp⟩
/-- The device at each distance from `c`. -/
def around (c : Dev nD) : Fin 16 ≃ Dev nD :=
  ⟨peer c, fun q => ⟨(q.val + 16 - c.val) % 16, Nat.mod_lt _ (by decide)⟩,
    fun d => by have : c.val < 16 := c.isLt; have := d.isLt; exact Fin.ext (by simp only [peer]; omega),
    fun q => by have : c.val < 16 := c.isLt; have : q.val < 16 := q.isLt; exact Fin.ext (by simp only [peer]; omega)⟩

/-- The distances still to go when the next one is `k`. -/
def rem (k : ℕ) : Finset (Fin 16) := Finset.univ.filter fun d => k ≤ d.val
/-- The distances done (from 1) when the next one is `k`. -/
def fin (k : ℕ) : Finset (Fin 16) := Finset.univ.filter fun d => 1 ≤ d.val ∧ d.val < k

theorem mem_rem {k : ℕ} {d : Fin 16} : d ∈ rem k ↔ k ≤ d.val := by simp [rem]
theorem mem_fin {k : ℕ} {d : Fin 16} : d ∈ fin k ↔ 1 ≤ d.val ∧ d.val < k := by simp [fin]
theorem rem_step (k : ℕ) (hk : k < 16) : rem k = insert ⟨k, hk⟩ (rem (k + 1)) := by
  ext d; rw [Finset.mem_insert, mem_rem, mem_rem, Fin.ext_iff]; simp only; omega
theorem notMem_rem (k : ℕ) (hk : k < 16) : (⟨k, hk⟩ : Fin 16) ∉ rem (k + 1) := by rw [mem_rem]; simp
theorem fin_step (k : ℕ) (h0 : 1 ≤ k) (hk : k < 16) : fin (k + 1) = insert ⟨k, hk⟩ (fin k) := by
  ext d; rw [Finset.mem_insert, mem_fin, mem_fin, Fin.ext_iff]; simp only; omega
theorem notMem_fin (k : ℕ) (hk : k < 16) : (⟨k, hk⟩ : Fin 16) ∉ fin k := by rw [mem_fin]; simp
theorem fin_one : fin 1 = ∅ := by ext d; simp [mem_fin]; omega
theorem rem_last : rem 16 = ∅ := by ext d; simp [mem_rem]
theorem fin_last : fin 16 = rem 1 := by ext d; have := d.isLt; rw [mem_fin, mem_rem]; omega
theorem univ_rem : (Finset.univ : Finset (Fin 16)) = insert 0 (rem 1) := by
  ext d; rw [Finset.mem_insert, mem_rem, Fin.ext_iff]; simp only [Finset.mem_univ, true_iff]
  show d.val = 0 ∨ 1 ≤ d.val; omega
theorem zero_notMem_rem : (0 : Fin 16) ∉ rem 1 := by rw [mem_rem]; decide
theorem card_rem_one : (rem 1).card = 15 := by decide

/-! ## The resource algebra: the pipeline library's copy and the exchange's, its duties named by distances -/

/-- The exchange's rounds: duties named by distances. -/
abbrev UB : Type := URounds (GSem nD τ sig) (Fin 16)
/-- The pipeline's rounds beside the exchange's. -/
abbrev UU : Type := UR sig nD τ × UB

local notation "𝕄" => MT nD τ sig Unit (Elt F) ℕ UU ℕ

/-- The pipeline's rounds in the whole algebra. -/
abbrev EP : Emb (UR sig nD τ) (MT nD τ sig Unit (Elt F) ℕ UU ℕ) := embL
/-- The exchange's rounds in the whole algebra. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs and cells -/

/-- The local partial sum. -/
abbrev pM : Memref sig .tc .vmem S512x512 .f32 := Memref.whole cc0_scratch0
/-- The receiving buffer, sixteen slots. -/
abbrev cM : Memref sig .tc .vmem S16x32x512 .f32 := Memref.whole cc0_scratch1

theorem slot_inb (j : ℕ) (hj : j < 16) : ∀ a, (![j, 0, 0] : Fin 3 → ℕ) a + S1x32x512.size a ≤ S16x32x512.size a := by
  intro a
  match a with
  | ⟨0, _⟩ => show j + 1 ≤ 16; omega
  | ⟨1, _⟩ => show 0 + 32 ≤ 32; omega
  | ⟨2, _⟩ => show 0 + 512 ≤ 512; omega
theorem rows_inb (b : ℕ) (hb : b < 16) : ∀ a, (![32 * b, 0] : Fin 2 → ℕ) a + S32x512.size a ≤ S512x512.size a := by
  intro a
  match a with
  | ⟨0, _⟩ => show 32 * b + 32 ≤ 512; omega
  | ⟨1, _⟩ => show 0 + 512 ≤ 512; omega
theorem sem_inb (j : ℕ) (hj : j < 16) : ∀ a, (![j] : Fin 1 → ℕ) a + S1.size a ≤ S16.size a := by
  intro a
  match a with
  | ⟨0, _⟩ => show j + 1 ≤ 16; omega

/-- Slot `j` of the receiving buffer as a rectangle. -/
abbrev slotR (j : ℕ) (hj : j < 16) : Rect S16x32x512 := Rect.unit (s := S16x32x512) ![j, 0, 0] S1x32x512.size (slot_inb j hj)
/-- Slot `j` of the receiving buffer as a 32 × 512 memref. -/
abbrev slotM (j : ℕ) (hj : j < 16) : Memref sig .tc .vmem S32x512 .f32 :=
  (cM.slice (slotR j hj) (fun _ => rfl)).squeeze S32x512 squeezes_S1x32x512_S32x512
/-- Row block `b` of the partial sum as a rectangle. -/
abbrev rowR (b : ℕ) (hb : b < 16) : Rect S512x512 := Rect.unit (s := S512x512) ![32 * b, 0] S32x512.size (rows_inb b hb)
/-- Row block `b` of the partial sum as a 32 × 512 memref. -/
abbrev rowM (b : ℕ) (hb : b < 16) : Memref sig .tc .vmem S32x512 .f32 := pM.slice (rowR b hb) (fun _ => rfl)

/-- The barrier semaphore. -/
abbrev barS : Sem sig := (SemArray.scalar (sig.barrier 0 rfl) : Sems sig S_).sem
/-- The departure semaphore of the copy at distance `j`. -/
abbrev sendS (j : ℕ) (hj : j < 16) : DmaSem sig :=
  ((cc0_scratch2.slice (Rect.unit (s := S16) ![j] S1.size (sem_inb j hj))).squeeze S_ squeezes_S1_S_).sem
/-- The arrival semaphore of the copy at distance `j`. -/
abbrev recvS (j : ℕ) (hj : j < 16) : DmaSem sig :=
  ((cc0_scratch3.slice (Rect.unit (s := S16) ![j] S1.size (sem_inb j hj))).squeeze S_ squeezes_S1_S_).sem

theorem sendS_val (d : Fin 16) : (sendS d.val d.isLt).val = 4 + d.val := by revert d; decide +kernel
theorem recvS_val (d : Fin 16) : (recvS d.val d.isLt).val = 20 + d.val := by revert d; decide +kernel

/-- Device `c`'s barrier cell. -/
abbrev barCell (c : Dev nD) : GSem nD τ sig := ((c : Thread nD τ), .reg barS)
/-- Device `c`'s departure cell of the copy at distance `d`. -/
abbrev sendCell (c : Dev nD) (d : Fin 16) : GSem nD τ sig := ((c : Thread nD τ), .dma (sendS d.val d.isLt))
/-- Device `c`'s arrival cell of the copy at distance `d`. -/
abbrev recvCell (c : Dev nD) (d : Fin 16) : GSem nD τ sig := ((c : Thread nD τ), .dma (recvS d.val d.isLt))

theorem send_ne_bar (d : Fin 16) : (SemLoc.dma (sendS d.val d.isLt) : SemLoc sig) ≠ .reg barS := fun h => by cases h
theorem recv_ne_bar (d : Fin 16) : (SemLoc.dma (recvS d.val d.isLt) : SemLoc sig) ≠ .reg barS := fun h => by cases h
theorem send_inj {d e : Fin 16} (h : (SemLoc.dma (sendS d.val d.isLt) : SemLoc sig) = .dma (sendS e.val e.isLt)) : d = e := by
  have h := congrArg Fin.val (SemLoc.dma.inj h); rw [sendS_val, sendS_val] at h; exact Fin.ext (by omega)
theorem recv_inj {d e : Fin 16} (h : (SemLoc.dma (recvS d.val d.isLt) : SemLoc sig) = .dma (recvS e.val e.isLt)) : d = e := by
  have h := congrArg Fin.val (SemLoc.dma.inj h); rw [recvS_val, recvS_val] at h; exact Fin.ext (by omega)
theorem send_ne_recv (d e : Fin 16) : (SemLoc.dma (sendS d.val d.isLt) : SemLoc sig) ≠ .dma (recvS e.val e.isLt) := fun h => by
  have h := congrArg Fin.val (SemLoc.dma.inj h); rw [sendS_val, recvS_val] at h; have := d.isLt; omega

/-- The credit of one block. -/
abbrev N : ℕ := (slotM 0 (by decide)).view.dmaCredit
theorem N_pos : 0 < N := View.dmaCredit_pos _ (by decide)
theorem slot_credit (j : ℕ) (hj : j < 16) : (slotM j hj).view.dmaCredit = N := rfl
theorem row_credit (b : ℕ) (hb : b < 16) : (rowM b hb).view.dmaCredit = N := rfl

/-! ## Contents -/

/-- Device `c`'s staged copy of `x`. -/
def xAt (c : Dev nD) : (cc0_stg0_0 : Ref sig .tc).ty.Contents (Elt F) :=
  (win0_0.blk t0_0).view.read (Elt F) ((s₀ m ρ).mem ((c : Thread nD τ).loc main_arg0))
/-- Device `c`'s staged copy of the routing indices. -/
def iAt (c : Dev nD) : (cc0_stg1_0 : Ref sig .tc).ty.Contents (Elt F) :=
  (win0_1.blk t0_0).view.read (Elt F) ((s₀ m ρ).mem ((c : Thread nD τ).loc main_arg2))
/-- Device `c`'s staged copy of its two experts' weights. -/
def wAt (c : Dev nD) : (cc0_stg2_0 : Ref sig .tc).ty.Contents (Elt F) :=
  (win0_2.blk t0_0).view.read (Elt F) ((s₀ m ρ).mem ((c : Thread nD τ).loc main_arg3))

/-- The weights of the device's expert `e`, as the kernel loads them. -/
def wSlice (e : ℕ) (he : ∀ a, (![e, 0, 0] : Fin 3 → ℕ) a + S1x256x512.size a ≤ S2x256x512.size a)
    (w : (cc0_stg2_0 : Ref sig .tc).ty.Contents (Elt F)) : Vec F S1x256x512 .bf16 :=
  (Memref.whole cc0_stg2_0 : Memref sig .tc .vmem S2x256x512 .bf16).view.readAt (Elt F)
    (Rect.unit (s := S2x256x512) ![e, 0, 0] S1x256x512.size he).toLoadRect w

/-- The number of the device's pair of experts, as the kernel computes it from the device's number. -/
def half (c : Dev nD) : BitVec 32 := Scalar.remsi (Scalar.divsi (Dev.word c) 1#32) 16#32

/-- Device `c`'s local partial sum. -/
def part (c : Dev nD) : Vec F S512x512 .f32 :=
  k0_pay3 (k0_pay2 (half c) (iota .tc S512x32 32 [1] iota_S512x32_d1_w32) (k0_pay1 (iAt m ρ c)) (xAt m ρ c)
    (wSlice 0 inb_S2x256x512_S1x256x512_0_0_0 (wAt m ρ c)) (wSlice 1 inb_S2x256x512_S1x256x512_1_0_0 (wAt m ρ c)))

/-- The row of the partial sum that lands at row `r` of device `c`'s slots. -/
def landRow (c : Dev nD) (i : S16x32x512.Idx) : S512x512.Idx := fun a =>
  match a with
  | ⟨0, _⟩ => ⟨32 * c.val + (i 1).val, by have h : (i 1).val < 32 := (i 1).isLt; have : c.val < 16 := c.isLt; show _ < 512; omega⟩
  | ⟨1, _⟩ => ⟨(i 2).val, (i 2).isLt⟩

/-- Device `c`'s receiving buffer once every copy has landed: slot `d` holds the rows of `c`'s block of the partial sum of
    the device `d` places before. -/
def landed (c : Dev nD) : (cc0_scratch1 : Ref sig .tc).ty.Contents (Elt F) :=
  fun i : S16x32x512.Idx => part m ρ (prev c (i 0)) (landRow c i)

/-! ## Points-tos -/

/-- Device `c`'s slot `d`, at the buffer contents `f`. -/
def slotPts (c : Dev nD) (d : Fin 16) (f : (cc0_scratch1 : Ref sig .tc).ty.Contents (Elt F)) : sProp 𝕄 :=
  (slotM d.val d.isLt).view.loc (c : Thread nD τ) ↦[(slotM d.val d.isLt).view.set]{fullShare} f
/-- Device `c`'s row block `b` of its partial sum. -/
def rowPts (c : Dev nD) (b : Dev nD) : sProp 𝕄 :=
  (rowM b.val b.isLt).view.loc (c : Thread nD τ) ↦[(rowM b.val b.isLt).view.set]{fullShare} part m ρ c

omit [FloatOps F] in
instance slotPts_storable (c : Dev nD) (d : Fin 16) (f) : BI.Storable (upEmb : UEmb _ 𝕄) (slotPts (F := F) c d f) := by
  unfold slotPts; infer_instance
instance rowPts_storable (c b : Dev nD) : BI.Storable (upEmb : UEmb _ 𝕄) (rowPts (F := F) m ρ c b) := by
  unfold rowPts; infer_instance

/-! ## The schedule -/

/-- What the signal of the device `e` places after `c` hands `c`: that device's slot `e`. -/
def barPay (c : Dev nD) (e : Fin 16) : sProp 𝕄 := iprop(∃ f, slotPts (F := F) (peer c e) e f)
/-- What the arrival of the copy at distance `d` hands `c`: its slot `d`, filled. -/
def recvPay (c : Dev nD) (d : Fin 16) : sProp 𝕄 := slotPts c d (landed m ρ c)
/-- What the departure of the copy at distance `d` hands `c`: the rows it copied. -/
def sendPay (c : Dev nD) (d : Fin 16) : sProp 𝕄 := rowPts m ρ c (peer c d)

/-- A barrier cell of a TensorCore. -/
abbrev IsBar (g : GSem nD τ sig) : Prop := g.1.2 = .tc ∧ g.2 = .reg barS
/-- A departure or arrival cell of the copy at distance `d`. -/
abbrev IsXfer (g : GSem nD τ sig) (d : Fin 16) : Prop :=
  g.1.2 = .tc ∧ 1 ≤ d.val ∧ (g.2 = .dma (sendS d.val d.isLt) ∨ g.2 = .dma (recvS d.val d.isLt))

/-- One round. A barrier cell has a duty of one unit for each distance from 1; a departure or arrival cell at distance
    `d` from 1 the single duty `d`, of one block's credit. -/
def sched : Rounds.Schedule (GSem nD τ sig) (Fin 16) 𝕄 where
  duties g r := if r = 0 ∧ IsBar g then rem 1 else if r = 0 then Finset.univ.filter (IsXfer g) else ∅
  unitless _ := False
  amount g _ _ := if g.2 = .reg barS then 1 else N
  payload g _ d :=
    if g.2 = .reg barS then barPay g.1.1 d
    else if g.2 = .dma (recvS d.val d.isLt) then recvPay m ρ g.1.1 d
    else sendPay m ρ g.1.1 d
  amount_pos g _ _ _ := by
    by_cases h : g.2 = .reg barS
    · rw [if_pos h]; exact Nat.one_pos
    · rw [if_neg h]; exact N_pos

instance sched_payload_storable (g : GSem nD τ sig) (r : ℕ) (d : Fin 16) :
    BI.Storable (upEmb : UEmb _ 𝕄) ((sched (F := F) m ρ).payload g r d) := by
  show BI.Storable upEmb (if g.2 = .reg barS then barPay g.1.1 d
    else if g.2 = .dma (recvS d.val d.isLt) then recvPay m ρ g.1.1 d else sendPay m ρ g.1.1 d)
  unfold barPay recvPay sendPay
  (repeat' split) <;> infer_instance

section Sched
variable (c : Dev nD) (d : Fin 16)

theorem not_bar_send : ¬ IsBar (sendCell c d) := fun h => send_ne_bar d h.2
theorem not_bar_recv : ¬ IsBar (recvCell c d) := fun h => recv_ne_bar d h.2

theorem duties_bar : (sched (F := F) m ρ).duties (barCell c) 0 = rem 1 := by dsimp only [sched]; exact if_pos ⟨rfl, rfl, rfl⟩
theorem duties_send (h : 1 ≤ d.val) : (sched (F := F) m ρ).duties (sendCell c d) 0 = {d} := by
  dsimp only [sched]; rw [if_neg (fun h => not_bar_send c d h.2), if_pos rfl]
  ext e; rw [Finset.mem_filter, Finset.mem_singleton]
  constructor
  · rintro ⟨-, -, -, h | h⟩
    · exact (send_inj h).symm
    · exact absurd h (send_ne_recv _ _)
  · rintro rfl; exact ⟨Finset.mem_univ _, rfl, h, .inl rfl⟩
theorem duties_recv (h : 1 ≤ d.val) : (sched (F := F) m ρ).duties (recvCell c d) 0 = {d} := by
  dsimp only [sched]; rw [if_neg (fun h => not_bar_recv c d h.2), if_pos rfl]
  ext e; rw [Finset.mem_filter, Finset.mem_singleton]
  constructor
  · rintro ⟨-, -, -, h | h⟩
    · exact absurd h.symm (send_ne_recv _ _)
    · exact (recv_inj h).symm
  · rintro rfl; exact ⟨Finset.mem_univ _, rfl, h, .inr rfl⟩
theorem duties_send_zero : (sched (F := F) m ρ).duties (sendCell c 0) 0 = ∅ := by
  dsimp only [sched]; rw [if_neg (fun h => not_bar_send c 0 h.2), if_pos rfl]
  refine Finset.filter_false_of_mem ?_
  rintro e - ⟨-, h1, h | h⟩
  · rw [← send_inj (d := 0) h] at h1; exact absurd h1 (by decide)
  · exact send_ne_recv 0 e h
theorem duties_recv_zero : (sched (F := F) m ρ).duties (recvCell c 0) 0 = ∅ := by
  dsimp only [sched]; rw [if_neg (fun h => not_bar_recv c 0 h.2), if_pos rfl]
  refine Finset.filter_false_of_mem ?_
  rintro e - ⟨-, h1, h | h⟩
  · exact send_ne_recv e 0 h.symm
  · rw [← recv_inj (d := 0) h] at h1; exact absurd h1 (by decide)
theorem duties_later (g : GSem nD τ sig) : ∀ r, 1 ≤ r → (sched (F := F) m ρ).duties g r = ∅ :=
  fun r hr => by dsimp only [sched]; rw [if_neg fun h => by omega, if_neg fun h => by omega]

theorem amount_bar : (sched (F := F) m ρ).amount (barCell c) 0 d = 1 := by dsimp only [sched]; exact if_pos rfl
theorem amount_send (e : Fin 16) : (sched (F := F) m ρ).amount (sendCell c d) 0 e = N := by
  dsimp only [sched]; exact if_neg (send_ne_bar d)
theorem amount_recv (e : Fin 16) : (sched (F := F) m ρ).amount (recvCell c d) 0 e = N := by
  dsimp only [sched]; exact if_neg (recv_ne_bar d)

theorem expect_bar : (sched (F := F) m ρ).expect (barCell c) 0 = 15 := by
  unfold Schedule.expect Schedule.amountOf
  rw [duties_bar, Finset.sum_congr rfl fun d _ => amount_bar m ρ c d, Finset.sum_const, card_rem_one, smul_eq_mul]
theorem expect_send (h : 1 ≤ d.val) : (sched (F := F) m ρ).expect (sendCell c d) 0 = N := by
  unfold Schedule.expect Schedule.amountOf; rw [duties_send m ρ c d h, Finset.sum_singleton, amount_send]
theorem expect_recv (h : 1 ≤ d.val) : (sched (F := F) m ρ).expect (recvCell c d) 0 = N := by
  unfold Schedule.expect Schedule.amountOf; rw [duties_recv m ρ c d h, Finset.sum_singleton, amount_recv]

theorem payload_bar : (sched (F := F) m ρ).payload (barCell c) 0 d = barPay c d := by dsimp only [sched]; exact if_pos rfl
theorem payload_send : (sched (F := F) m ρ).payload (sendCell c d) 0 d = sendPay m ρ c d := by
  dsimp only [sched]; rw [if_neg (send_ne_bar d), if_neg (send_ne_recv d d)]
theorem payload_recv : (sched (F := F) m ρ).payload (recvCell c d) 0 d = recvPay m ρ c d := by
  dsimp only [sched]; rw [if_neg (recv_ne_bar d), if_pos rfl]

/-- The barrier round's payloads: every other device's slot for `c`. -/
theorem rest_bar : bigSep ((sched (F := F) m ρ).duties (barCell c) 0 \ ∅) (fun d => (sched (F := F) m ρ).payload (barCell c) 0 d)
    = bigSep (rem 1) (fun e => barPay (F := F) c e) := by
  rw [Finset.sdiff_empty, duties_bar]; exact bigSep_congr fun e _ => payload_bar m ρ c e
theorem rest_send (h : 1 ≤ d.val) :
    bigSep ((sched (F := F) m ρ).duties (sendCell c d) 0 \ ∅) (fun e => (sched (F := F) m ρ).payload (sendCell c d) 0 e) = sendPay m ρ c d := by
  rw [Finset.sdiff_empty, duties_send m ρ c d h, bigSep_singleton, payload_send]
theorem rest_recv (h : 1 ≤ d.val) :
    bigSep ((sched (F := F) m ρ).duties (recvCell c d) 0 \ ∅) (fun e => (sched (F := F) m ρ).payload (recvCell c d) 0 e) = recvPay m ρ c d := by
  rw [Finset.sdiff_empty, duties_recv m ρ c d h, bigSep_singleton, payload_recv]

end Sched

end Cert.Exchange
-- ==== Proof.Geometry.lean ====
/-
# The exchange's geometry

The sixteen slots tile the receiving buffer and the sixteen row blocks tile the partial sum; a copy at distance `d` leaves the
sender's rows in the receiver's slot `d`; and a device's own block, stored in slot 0, is what that slot is said to hold.
-/
module

public import proofs.«01_k».proof.Proof.Protocol
public import Idealize.ShloMosaic.Lib.ValueLayout

@[expose] public section

set_option maxRecDepth 16384

noncomputable section

namespace Cert.Exchange

open Cert.KernelIdeal Cert.KernelIdeal.Gen

open Idealize.ShloMosaic
open Idealize.ShloMosaic.TcCoe
open Idealize.ShloMosaic.ValueIdx (ix2 ix3 eq_ix2 reshapeEquiv_ix2_1ab)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots and row blocks -/

theorem slotR_set (j : ℕ) (hj : j < 16) : (slotM j hj).view.set = (slotR j hj).set := by
  show ((View.whole cc0_scratch1).slice (slotR j hj) |>.reshape S32x512 _).set = _
  rw [View.set_reshape, View.set_slice_whole]
theorem rowR_set (b : ℕ) (hb : b < 16) : (rowM b hb).view.set = (rowR b hb).set := by
  show ((View.whole cc0_scratch0).slice (rowR b hb)).set = _
  rw [View.set_slice_whole]

theorem mem_slotR (j : ℕ) (hj : j < 16) (i : S16x32x512.Idx) : i ∈ (slotR j hj).set ↔ (i 0).val = j := by
  rw [Rect.mem_set_unit]
  constructor
  · intro h; have h0 := h 0
    have h1 : j ≤ (i 0).val := h0.1
    have h2 : (i 0).val < j + 1 := h0.2
    omega
  · intro h a
    match a with
    | ⟨0, _⟩ => exact ⟨(show j ≤ (i 0).val by omega), (show (i 0).val < j + 1 by omega)⟩
    | ⟨1, _⟩ => exact ⟨Nat.zero_le _, (show (i 1).val < 0 + 32 by have : (i 1).val < 32 := (i 1).isLt; omega)⟩
    | ⟨2, _⟩ => exact ⟨Nat.zero_le _, (show (i 2).val < 0 + 512 by have : (i 2).val < 512 := (i 2).isLt; omega)⟩
theorem mem_rowR (b : ℕ) (hb : b < 16) (i : S512x512.Idx) : i ∈ (rowR b hb).set ↔ (i 0).val / 32 = b := by
  rw [Rect.mem_set_unit]
  constructor
  · intro h; have h0 := h 0
    have h1 : 32 * b ≤ (i 0).val := h0.1
    have h2 : (i 0).val < 32 * b + 32 := h0.2
    omega
  · intro h a
    match a with
    | ⟨0, _⟩ => exact ⟨(show 32 * b ≤ (i 0).val by omega), (show (i 0).val < 32 * b + 32 by omega)⟩
    | ⟨1, _⟩ => exact ⟨Nat.zero_le _, (show (i 1).val < 0 + 512 by have : (i 1).val < 512 := (i 1).isLt; omega)⟩

theorem slot_disjoint (d e : Fin 16) (h : d ≠ e) : Disjoint (slotR d.val d.isLt).set (slotR e.val e.isLt).set :=
  Finset.disjoint_left.2 fun i hi hi' => h (Fin.ext (((mem_slotR _ _ i).1 hi).symm.trans ((mem_slotR _ _ i).1 hi')))
theorem row_disjoint (b e : Dev nD) (h : b ≠ e) : Disjoint (rowR b.val b.isLt).set (rowR e.val e.isLt).set :=
  Finset.disjoint_left.2 fun i hi hi' => h (Fin.ext (((mem_rowR _ _ i).1 hi).symm.trans ((mem_rowR _ _ i).1 hi')))
theorem slot_cover : (Finset.univ : Finset (Fin 16)).biUnion (fun d => (slotR d.val d.isLt).set) = Finset.univ :=
  Finset.eq_univ_iff_forall.2 fun i => Finset.mem_biUnion.2 ⟨i 0, Finset.mem_univ _, (mem_slotR _ _ i).2 rfl⟩
theorem row_cover : (Finset.univ : Finset (Dev nD)).biUnion (fun b => (rowR b.val b.isLt).set) = Finset.univ :=
  Finset.eq_univ_iff_forall.2 fun i : S512x512.Idx =>
    Finset.mem_biUnion.2 ⟨⟨(i 0).val / 32, by have : (i 0).val < 512 := (i 0).isLt; show _ < 16; omega⟩, Finset.mem_univ _, (mem_rowR _ _ i).2 rfl⟩

/-- The receiving buffer is its sixteen slots. -/
theorem slots_eq (c : Dev nD) (f : (cc0_scratch1 : Ref sig .tc).ty.Contents (Elt F)) :
    (((c : Thread nD τ).loc cc0_scratch1) ↦{fullShare} (f : Buf (Elt F) ((c : Thread nD τ).loc cc0_scratch1)) : sProp 𝕄)
      = bigSep Finset.univ (fun d : Fin 16 => slotPts (F := F) c d f) := by
  have h := pointsTo_biUnion (Ix := Unit) (Name := ℕ) (U := UU) (Lvl := ℕ) (ℓ := (c : Thread nD τ).loc cc0_scratch1) (q := fullShare) (f := f)
    (Finset.univ : Finset (Fin 16)) (fun d => (slotR d.val d.isLt).set) (fun d _ e _ h => slot_disjoint d e h)
  rw [slot_cover] at h
  refine h.trans (bigSep_congr fun d _ => ?_)
  unfold slotPts; rw [slotR_set]
/-- The partial sum is its sixteen row blocks. -/
theorem rows_eq (c : Dev nD) :
    (((c : Thread nD τ).loc cc0_scratch0) ↦{fullShare} (part m ρ c : Buf (Elt F) ((c : Thread nD τ).loc cc0_scratch0)) : sProp 𝕄)
      = bigSep Finset.univ (fun b : Dev nD => rowPts m ρ c b) := by
  have h := pointsTo_biUnion (Ix := Unit) (Name := ℕ) (U := UU) (Lvl := ℕ) (ℓ := (c : Thread nD τ).loc cc0_scratch0) (q := fullShare)
    (f := (part m ρ c : Buf (Elt F) ((c : Thread nD τ).loc cc0_scratch0)))
    (Finset.univ : Finset (Dev nD)) (fun b => (rowR b.val b.isLt).set) (fun d _ e _ h => row_disjoint d e h)
  rw [row_cover] at h
  refine h.trans (bigSep_congr fun d _ => ?_)
  unfold rowPts; rw [rowR_set]
/-- The row blocks counted by the distance of the device they are for. -/
theorem rows_eq_around (c : Dev nD) :
    (bigSep Finset.univ (fun b : Dev nD => rowPts m ρ c b) : sProp 𝕄) = bigSep Finset.univ (fun d : Fin 16 => rowPts m ρ c (peer c d)) :=
  bigSep_univ_equiv (around c) _

/-! ## What a copy leaves -/

/-- A 32 × 512 index read as an index of a slot: a leading 0 put before it. -/
theorem squeeze_idx (h : S32x512.numel = S1x32x512.numel) (x : S32x512.Idx) (a : Fin 3) :
    (Shape.reshapeEquiv h x a).val = (![0, (x 0).val, (x 1).val] : Fin 3 → ℕ) a := by
  have h1 := reshapeEquiv_ix2_1ab (a := 32) (b := 512) h (x 0) (x 1)
  have h2 : x = ix2 (n0 := 32) (n1 := 512) (x 0) (x 1) := eq_ix2 (n0 := 32) (n1 := 512) x
  rw [← h2] at h1
  have h3 := congrFun h1 a
  match a with
  | ⟨0, _⟩ => exact congrArg Fin.val h3
  | ⟨1, _⟩ => exact congrArg Fin.val h3
  | ⟨2, _⟩ => exact congrArg Fin.val h3

/-- Where row `x` of slot `j` sits in the receiving buffer. -/
theorem slot_emb (j : ℕ) (hj : j < 16) (x : S32x512.Idx) (a : Fin 3) :
    ((slotM j hj).view.emb x a).val = (![j, (x 0).val, (x 1).val] : Fin 3 → ℕ) a := by
  have h := squeeze_idx squeezes_S1x32x512_S32x512.numel_eq x a
  have e : ((slotM j hj).view.emb x a).val
      = (![j, 0, 0] : Fin 3 → ℕ) a + 1 * (Shape.reshapeEquiv squeezes_S1x32x512_S32x512.numel_eq x a).val := rfl
  rw [e, h]
  match a with
  | ⟨0, _⟩ => rfl
  | ⟨1, _⟩ => show 0 + 1 * (x 0).val = (x 0).val; omega
  | ⟨2, _⟩ => show 0 + 1 * (x 1).val = (x 1).val; omega

/-- Where row `x` of block `b` sits in the partial sum. -/
theorem row_emb (b : ℕ) (hb : b < 16) (x : S32x512.Idx) (a : Fin 2) :
    ((rowM b hb).view.emb x a).val = (![32 * b + (x 0).val, (x 1).val] : Fin 2 → ℕ) a := by
  have e : ((rowM b hb).view.emb x a).val = (![32 * b, 0] : Fin 2 → ℕ) a + 1 * (x a).val := rfl
  rw [e]
  match a with
  | ⟨0, _⟩ => show 32 * b + 1 * (x 0).val = 32 * b + (x 0).val; omega
  | ⟨1, _⟩ => show 0 + 1 * (x 1).val = (x 1).val; omega

/-- What slot `d` of device `c`'s buffer is said to hold, by the row inside the slot. -/
theorem landed_at (c : Dev nD) (d : Fin 16) (i : S16x32x512.Idx) (x : S32x512.Idx)
    (h0 : (i 0).val = d.val) (h1 : (i 1).val = (x 0).val) (h2 : (i 2).val = (x 1).val) :
    landed m ρ c i = part m ρ (prev c d) ((rowM c.val c.isLt).view.emb x) := by
  have hd : i 0 = d := Fin.ext h0
  show part m ρ (prev c (i 0)) (landRow c i) = _
  rw [hd]
  refine congrArg (part m ρ (prev c d)) (funext fun a => Fin.ext ?_)
  rw [row_emb]
  match a with
  | ⟨0, _⟩ => show 32 * c.val + (i 1).val = 32 * c.val + (x 0).val; rw [h1]
  | ⟨1, _⟩ => exact h2

/-- A copy of `c`'s block for the device at distance `d` leaves in that device's slot `d` what `landed` says. -/
theorem landed_copy (c : Dev nD) (d : Fin 16) (fd : (cc0_scratch1 : Ref sig .tc).ty.Contents (Elt F))
    (i : (slotM d.val d.isLt).view.ty.Idx) (hi : i ∈ (slotM d.val d.isLt).view.set) :
    (slotM d.val d.isLt).view.write (Elt F) fd ((rowM (peer c d).val (peer c d).isLt).view.read (Elt F) (part m ρ c)) Finset.univ i
      = landed m ρ (peer c d) i := by
  obtain ⟨x, -, rfl⟩ := Finset.mem_map.1 hi
  rw [View.write_emb_of_mem _ _ (Finset.mem_univ x)]
  have h := landed_at m ρ (peer c d) d ((slotM d.val d.isLt).view.emb x) x (slot_emb _ _ x 0) (slot_emb _ _ x 1) (slot_emb _ _ x 2)
  rw [prev_peer] at h
  exact h.symm

/-- Slot `j` of the receiving buffer as the view a store goes through. -/
abbrev slotA (j : ℕ) (hj : j < 16) : View sig .tc .vmem S1x32x512 .f32 := cM.access (slotR j hj)

theorem slotA_set (j : ℕ) (hj : j < 16) : (slotA j hj).set = (slotR j hj).set := by
  show ((View.whole cc0_scratch1).slice (slotR j hj)).set = _
  rw [View.set_slice_whole]

theorem lt16 : 0 < 16 := by decide

/-- A device's own block, stored in slot 0, is what `landed` says of that slot. -/
theorem landed_own (c : Dev nD) (f : (cc0_scratch1 : Ref sig .tc).ty.Contents (Elt F))
    (i : (slotA 0 lt16).ty.Idx) (hi : i ∈ (slotA 0 lt16).set) :
    (slotA 0 lt16).write (Elt F) f
        (k0_pay4 (pM.view.readAt (Elt F) (rowR c.val c.isLt).toLoadRect (part m ρ c))) Finset.univ i
      = landed m ρ c i := by
  obtain ⟨y, -, rfl⟩ := Finset.mem_map.1 hi
  rw [View.write_emb_of_mem _ _ (Finset.mem_univ y)]
  obtain ⟨x, rfl⟩ := (Shape.reshapeEquiv (s := S1x32x512) (s' := S32x512) squeezes_S1x32x512_S32x512.numel_eq).surjective y
  have hx (a : Fin 3) := squeeze_idx squeezes_S1x32x512_S32x512.numel_eq x a
  have h := landed_at m ρ c 0 ((slotM 0 lt16).view.emb x) x (slot_emb _ _ x 0) (slot_emb _ _ x 1) (slot_emb _ _ x 2)
  have hp : prev c 0 = c := Fin.ext (by have : c.val < 16 := c.isLt; show (c.val + 16 - 0) % 16 = c.val; omega)
  rw [hp] at h
  refine Eq.trans ?_ h.symm
  show part m ρ c ((rowR c.val c.isLt).emb (Shape.reshapeEquiv _ (Shape.reshapeEquiv _ x))) = part m ρ c ((rowR c.val c.isLt).emb x)
  rw [Shape.reshapeEquiv_reshapeEquiv, Shape.reshapeEquiv_self]

/-- Slot `d` of device `c`'s buffer as the kernel loads it. -/
def got (c : Dev nD) (d : Fin 16) : Vec F S1x32x512 .f32 :=
  cM.view.readAt (Elt F) (slotR d.val d.isLt).toLoadRect (landed m ρ c)

end Cert.Exchange
-- ==== Proof.Steps.lean ====
/-
# The exchange's steps

One statement for each kind of step a device takes — a signal, the barrier wait, a copy, an arrival wait and the load after it,
a departure wait — at a distance `j` that stays a variable. The state before a step at `j` is a heap of what is still to do at the
distances from `j`, beside what the distances before `j` have brought.
-/
module

public import proofs.«01_k».proof.Proof.Geometry

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Two facts on heaps -/

/-- A heap over a set with one more index. -/
theorem heap_insert {I : Type} [DecidableEq I] {i : I} {s : Finset I} (h : i ∉ s) {Φ : I → sProp 𝕄} :
    (bigSep (insert i s) Φ : sProp 𝕄) = iprop(Φ i ∗ bigSep s Φ) := bigSep_insert h
/-- One summand of a heap. -/
theorem heap_at {I : Type} [DecidableEq I] {s : Finset I} {i : I} (h : i ∈ s) {Φ : I → sProp 𝕄} : (bigSep s Φ : sProp 𝕄) ⊢ Φ i :=
  bigSep_elim h

/-! ## What a device owes; the levels -/

/-- The units a device still owes the other devices' barrier cells before its signal at distance `k`. -/
def oSig (c : Dev nD) (k : ℕ) : CellTallies nD τ sig Unit := ∑ d ∈ rem k, tallyAt (barCell (peer c d)) () 1
/-- The credit a device still owes the other devices' arrival cells before its copy at distance `k`. -/
def oCopy (c : Dev nD) (k : ℕ) : CellTallies nD τ sig Unit := ∑ d ∈ rem k, tallyAt (recvCell (peer c d) d) () N

theorem oSig_step (c : Dev nD) (k : ℕ) (hk : k < 16) :
    oSig c k = oSig c (k + 1) + tallyAt (barCell (peer c ⟨k, hk⟩)) () 1 := by
  unfold oSig; rw [rem_step k hk, Finset.sum_insert (notMem_rem k hk), add_comm]
theorem oCopy_step (c : Dev nD) (k : ℕ) (hk : k < 16) :
    oCopy c k = oCopy c (k + 1) + tallyAt (recvCell (peer c ⟨k, hk⟩) ⟨k, hk⟩) () N := by
  unfold oCopy; rw [rem_step k hk, Finset.sum_insert (notMem_rem k hk), add_comm]
theorem oSig_last (c : Dev nD) : oSig c 16 = 0 := by unfold oSig; rw [rem_last, Finset.sum_empty]
theorem oCopy_last (c : Dev nD) : oCopy c 16 = 0 := by unfold oCopy; rw [rem_last, Finset.sum_empty]

/-- A device's debts at launch. -/
def O₀ (c : Dev nD) : CellTallies nD τ sig Unit := oCopy c 1 + oSig c 1

/-- Every TensorCore cell has one index. -/
def L (g : GSem nD τ sig) : Finset Unit := if g.1.2 = .tc then {()} else ∅
/-- Barrier cells at 1, arrival cells at 2, the rest (staging, departure) at 0. -/
def lv (g : GSem nD τ sig) (_ : Unit) : ℕ :=
  if g.2 = .reg barS then 1 else if ∃ d : Fin 16, g.2 = .dma (recvS d.val d.isLt) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (d : Fin 16) : lv (recvCell c d) () = 2 := by
  dsimp only [lv]; rw [if_neg (recv_ne_bar d), if_pos ⟨d, rfl⟩]

theorem sum_pos {I : Type} [DecidableEq I] (S : Finset I) (f : I → CellTallies nD τ sig Unit) (g : GSem nD τ sig) (u : Unit)
    (h : 0 < (∑ d ∈ S, f d) g u) : ∃ d ∈ S, 0 < f d g u := by
  induction S using Finset.induction_on with
  | empty => rw [Finset.sum_empty] at h; exact absurd h (Nat.lt_irrefl 0)
  | insert a S ha ih =>
    rw [Finset.sum_insert ha, Pi.add_apply, Finsupp.add_apply] at h
    rcases Nat.eq_zero_or_pos (f a g u) with h0 | h0
    · rw [h0, Nat.zero_add] at h; obtain ⟨d, hd, hp⟩ := ih h; exact ⟨d, Finset.mem_insert_of_mem hd, hp⟩
    · exact ⟨a, Finset.mem_insert_self _ _, h0⟩

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem oCopy_pos {c : Dev nD} {k : ℕ} {g : GSem nD τ sig} {u : Unit} (h : 0 < oCopy c k g u) : ∃ q d, g = recvCell q d := by
  obtain ⟨d, -, hd⟩ := sum_pos _ _ _ _ h
  exact ⟨peer c d, d, tally_pos hd⟩
theorem O₀_pos {c : Dev nD} {g : GSem nD τ sig} {u : Unit} (h : 0 < O₀ c g u) : (∃ q d, g = recvCell q d) ∨ ∃ q, g = barCell q := by
  unfold O₀ at h
  rw [Pi.add_apply, Finsupp.add_apply] at h
  rcases Nat.eq_zero_or_pos (oCopy c 1 g u) with h0 | h0
  · rw [h0, Nat.zero_add] at h
    obtain ⟨d, -, hd⟩ := sum_pos _ _ _ _ h
    exact .inr ⟨peer c d, tally_pos hd⟩
  · exact .inl (oCopy_pos h0)

/-- A staging cell may be waited on at launch, and once nothing is owed. -/
theorem mayWait_stage (c : Dev nD) (q : DmaSem sig) (hq : ∀ d : Fin 16, SemLoc.dma q ≠ .dma (recvS d.val d.isLt))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨q, d, rfl⟩ | ⟨q, rfl⟩ <;> exact Finset.mem_singleton_self _)
      (fun p hp => by
        rw [Finset.mem_singleton.mp hp]; dsimp only [lv]
        rw [if_neg (fun h => by cases h), if_neg (fun ⟨d, h⟩ => hq d h)])
      (fun g u hg => by
        rcases O₀_pos hg with ⟨q, d, rfl⟩ | ⟨q, rfl⟩
        · show 0 < lv (recvCell q d) (); rw [lv_recv]; decide
        · show 0 < lv (barCell q) (); rw [lv_bar]; decide)
  · rw [MayWait_zero]; iintro -; iempintro

/-- At its barrier wait a device owes arrival cells only. -/
theorem mayWait_bar (c : Dev nD) : (levAts L lv : sProp 𝕄) ⊢ MayWait (c : Thread nD τ) (.reg barS) () (oCopy c 1) :=
  MayOwe.of_cut (L := L) (lev := lv) 1 (fun p hp => by rw [Finset.mem_singleton.mp hp, L_tc]; exact Finset.mem_singleton_self _)
    (fun g u hg => by obtain ⟨q, d, rfl⟩ := oCopy_pos hg; exact Finset.mem_singleton_self _)
    (fun p hp => by rw [Finset.mem_singleton.mp hp]; exact (lv_bar c).le)
    (fun g u hg => by obtain ⟨q, d, rfl⟩ := oCopy_pos hg; show 1 < lv (recvCell q d) (); rw [lv_recv]; decide)

/-! ## The cells' invariants, kept together -/

/-- The kinds of cell of a device: the barrier; a departure cell and an arrival cell per distance. -/
abbrev Kind3 : Type := Unit ⊕ (Fin 16 ⊕ Fin 16)
/-- The semaphores of the launch's own, departures and arrivals. -/
abbrev osem : Fin 16 ⊕ Fin 16 → SemLoc sig := fun
  | .inl d => .dma (sendS d.val d.isLt)
  | .inr d => .dma (recvS d.val d.isLt)
/-- The exchange's semaphores. -/
abbrev csem : Kind3 → SemLoc sig := fun
  | .inl _ => .reg barS
  | .inr k => osem k
/-- The exchange's cells. -/
abbrev kcell (ck : Dev nD × Kind3) : GSem nD τ sig := ((ck.1 : Thread nD τ), csem ck.2)

variable (K : Dev nD × Kind3 → ℕ)

/-- Every cell's invariant and that every cell has reached its round. -/
def records : sProp 𝕄 :=
  iprop(bigSep Finset.univ (fun ck : Dev nD × Kind3 => cellInv ER (sched m ρ) (K ck) (kcell ck))
    ∗ bigSep Finset.univ (fun ck : Dev nD × Kind3 => reached ER (kcell ck) 0))

instance records_persistent : BI.Persistent (records (F := F) m ρ K) := by unfold records; infer_instance

theorem inv_at (ck : Dev nD × Kind3) : records (F := F) m ρ K ⊢ cellInv ER (sched m ρ) (K ck) (kcell ck) := by
  unfold records; iintro ⟨H, -⟩; iapply (heap_at (Φ := fun ck : Dev nD × Kind3 => cellInv ER (sched m ρ) (K ck) (kcell ck)) (Finset.mem_univ ck)); iexact H
theorem reached_at (ck : Dev nD × Kind3) : records (F := F) m ρ K ⊢ reached ER (kcell ck) 0 := by
  unfold records; iintro ⟨-, H⟩
  iapply (heap_at (Φ := fun ck : Dev nD × Kind3 => reached ER (kcell ck) 0) (Finset.mem_univ ck)); iexact H

abbrev 𝒱₀ : Variants := Variants.none

/-- Device `c` runs `p` safely and ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules
variable (c : Dev nD) (j : ℕ) (h1 : 1 ≤ j) (hj : j < 16)

/-! ## Signals and the barrier wait -/

/-- Before the signal at distance `k`: what is owed, and for every distance left the token to pay with and the own slot to
    hand over. -/
def sigSt (k : ℕ) : sProp 𝕄 :=
  iprop((∃ W, owes (c : Thread nD τ) (oCopy c 1 + oSig c k) W)
    ∗ bigSep (rem k) (fun d => iprop(dutyTok ER (barCell (peer c d)) 0 (opp d) ∗ ∃ f, slotPts (F := F) c (opp d) f)))

include h1 in
/-- The signal at distance `j`. -/
theorem sig_step (n : Dev nD) (hn : n = peer c ⟨j, hj⟩) {a : ℕ} (ha : a = 1)
    {α : Type} {Q : α → sProp 𝕄} {kont : PUnit → Prog (TpuEff nD τ sig (Elt F) Λ₀ .tc) α} :
    iprop(records m ρ K ∗ sigSt (F := F) c j)
      ⊢ iprop((sigSt (F := F) c (j + 1) -∗ WP c (kont ⟨⟩) Q) -∗ WP c (.op (.semSignal (n, .tc) barS a) kont) Q) := by
  subst hn ha
  unfold sigSt
  rw [rem_step j hj, heap_insert (notMem_rem j hj)]
  iintro ⟨#HR, ⟨%W, HO⟩, ⟨Ht, ⟨%f, Hs⟩⟩, Hrest⟩ Hk
  iapply (Rounds.wp_signal 𝒱₀ ER (sched m ρ) (c : Thread nD τ) none (dst := (peer c ⟨j, hj⟩ : Thread nD τ))
      (κ := K (peer c ⟨j, hj⟩, .inl ())) (d := opp ⟨j, hj⟩)
      (by rw [duties_bar, mem_rem]; exact opp_ne_zero (d := ⟨j, hj⟩) h1) (amount_bar m ρ _ _) () (O₀ := oCopy c 1 + oSig c j) (oCopy c 1 + oSig c (j + 1))
      (by rw [oSig_step c j hj, add_assoc])) $$ [HO Ht Hs]
  · isplitr; · iapply (inv_at m ρ K (peer c ⟨j, hj⟩, .inl ())); iexact HR
    isplitl [HO]; · iexact HO
    isplitl [Ht]; · iexact Ht
    isplitl [Hs]
    · rw [payload_bar]; unfold barPay; rw [peer_peer_opp]; iexists f; iexact Hs
    · iapply (reached_at m ρ K (peer c ⟨j, hj⟩, .inl ())); iexact HR
  iintro HO
  iapply Hk
  isplitl [HO]; · iexists W; iexact HO
  iexact Hrest

/-- After the barrier wait: the other devices' slots for `c`, and the barrier cell closed at zero. -/
def barred : sProp 𝕄 :=
  iprop((∃ W, owes (c : Thread nD τ) (oCopy c 1) W) ∗ bigSep (rem 1) (fun e => iprop(∃ f, slotPts (F := F) (peer c e) e f))
    ∗ semVal (barCell c) 0)

/-- The barrier wait. -/
theorem bar_wait {a : ℕ} (ha : a = 15) {α : Type} {Q : α → sProp 𝕄} {kont : PUnit → Prog (TpuEff nD τ sig (Elt F) Λ₀ .tc) α} :
    iprop(records m ρ K ∗ levAts L lv ∗ sigSt (F := F) c 16 ∗ cred (tallyAt (barCell c) () 15) ∗ atPos ER (barCell c) 0 ∅ 0)
      ⊢ iprop((barred (F := F) c -∗ WP c (kont ⟨⟩) Q) -∗ WP c (.op (.semWait barS a) kont) Q) := by
  subst ha
  unfold sigSt barred
  rw [rem_last, oSig_last, add_zero, bigSep_empty]
  iintro ⟨#HR, #Hlev, ⟨⟨%W, HO⟩, -⟩, HcB, HatB⟩ Hk
  iapply (Rounds.wp_wait_rest_token 𝒱₀ ER (sched m ρ) (c : Thread nD τ) none (κ := K (c, .inl ()))
      (wpE_semWait_eq 𝒱₀ (c : Thread nD τ) none Set.univ) (Set.mem_univ _) () (O := oCopy c 1) (W := W) (R := 0) (m := 0) (T := ∅)
      (by rw [expect_bar])) $$ [HcB HO HatB]
  · isplitr; · iapply (inv_at m ρ K (c, .inl ())); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [HatB] with HzB
  · isplitr; · iapply (inv_at m ρ K (c, .inl ())); iexact HR
    iexact HatB
  iapply Hk
  isplitl [HO]; · iexists _; iexact HO
  isplitl [Hp]; · unfold barPay; iexact Hp
  iexact HzB

/-! ## Copies -/

/-- Before the copy at distance `k`: what is owed, and for every distance left the rows to copy, the slot to copy into and the
    two tokens; for every distance done the credit of the departure. -/
def copySt (k : ℕ) : sProp 𝕄 :=
  iprop((∃ W, owes (c : Thread nD τ) (oCopy c k) W)
    ∗ bigSep (rem k) (fun d => iprop(rowPts m ρ c (peer c d) ∗ (∃ f, slotPts (F := F) (peer c d) d f)
        ∗ dutyTok ER (sendCell c d) 0 d ∗ dutyTok ER (recvCell (peer c d) d) 0 d))
    ∗ bigSep (fin k) (fun d => cred (tallyAt (sendCell c d) () N)))

include h1 in
/-- The copy at distance `j`, from the resources it consumes to those it brings. -/
theorem copy_rule (fd : (cc0_scratch1 : Ref sig .tc).ty.Contents (Elt F)) (W : Waits sig Unit)
    {inb : ∀ a, (![32 * (peer c ⟨j, hj⟩).val, 0] : Fin 2 → ℕ) a + S32x512.size a ≤ S512x512.size a}
    {hsc : (slotM j hj : Memref sig (Dev.tc (peer c ⟨j, hj⟩) : Thread nD τ).2.kind .vmem S32x512 .f32).view.ref.isScScratch = false}
    {hsrc : (pM.slice (Rect.unit (s := S512x512) ![32 * (peer c ⟨j, hj⟩).val, 0] S32x512.size inb) (fun _ => rfl)).view.WordExact}
    {hdst : (slotM j hj).view.WordExact}
    {hsem : DmaTarget.Typed .vmem (.dma (recvS j hj)) (.remote (Dev.tc (peer c ⟨j, hj⟩) : Thread nD τ)
      (slotM j hj : Memref sig (Dev.tc (peer c ⟨j, hj⟩) : Thread nD τ).2.kind .vmem S32x512 .f32) (.dma (sendS j hj)) hsc)}
    {α : Type} {Q : α → sProp 𝕄} {kont : PUnit → Prog (TpuEff nD τ sig (Elt F) Λ₀ .tc) α} :
    iprop(cellInv ER (sched m ρ) (K (c, .inr (.inl ⟨j, hj⟩))) (sendCell c ⟨j, hj⟩)
        ∗ cellInv ER (sched m ρ) (K (peer c ⟨j, hj⟩, .inr (.inr ⟨j, hj⟩))) (recvCell (peer c ⟨j, hj⟩) ⟨j, hj⟩)
        ∗ rowPts m ρ c (peer c ⟨j, hj⟩) ∗ slotPts (peer c ⟨j, hj⟩) ⟨j, hj⟩ fd
        ∗ owes (c : Thread nD τ) (oCopy c j) W
        ∗ dutyTok ER (sendCell c ⟨j, hj⟩) 0 ⟨j, hj⟩ ∗ reached ER (sendCell c ⟨j, hj⟩) 0
        ∗ dutyTok ER (recvCell (peer c ⟨j, hj⟩) ⟨j, hj⟩) 0 ⟨j, hj⟩ ∗ reached ER (recvCell (peer c ⟨j, hj⟩) ⟨j, hj⟩) 0)
      ⊢ iprop(((cred (tallyAt (sendCell c ⟨j, hj⟩) () N) ∗ owes (c : Thread nD τ) (oCopy c (j + 1)) W) -∗ WP c (kont ⟨⟩) Q)
        -∗ WP c (.op (.enqueueDma (pM.slice (Rect.unit (s := S512x512) ![32 * (peer c ⟨j, hj⟩).val, 0] S32x512.size inb) (fun _ => rfl))
            (.remote (Dev.tc (peer c ⟨j, hj⟩) : Thread nD τ) (slotM j hj) (.dma (sendS j hj)) hsc) (.dma (recvS j hj)) hsrc hdst hsem) kont) Q) := by
  unfold rowPts slotPts
  exact Rounds.wp_send_pointsTo (Q := Q) (Es := Set.univ) 𝒱₀ ER (sched m ρ) (c : Thread nD τ) none
      (κ₁ := K (c, .inr (.inl ⟨j, hj⟩))) (κ₂ := K (peer c ⟨j, hj⟩, .inr (.inr ⟨j, hj⟩)))
      (r₁ := 0) (r₂ := 0) (d₁ := ⟨j, hj⟩) (d₂ := ⟨j, hj⟩) (fd := fd)
      (c' := Dev.tc (peer c ⟨j, hj⟩)) (src := rowM (peer c ⟨j, hj⟩).val (peer c ⟨j, hj⟩).isLt) (dst := slotM j hj)
      (sS := .dma (sendS j hj)) (sem := .dma (recvS j hj)) (q := fullShare) (fs := part m ρ c) (hsc := hsc) (hsrc := hsrc)
      (hdst := hdst) (hsem := hsem) (k := kont)
      (by rw [duties_send m ρ c ⟨j, hj⟩ h1]; exact Finset.mem_singleton_self _)
      (by rw [duties_recv m ρ (peer c ⟨j, hj⟩) ⟨j, hj⟩ h1]; exact Finset.mem_singleton_self _)
      () () N (slot_credit j hj) (amount_send m ρ c ⟨j, hj⟩ ⟨j, hj⟩) (amount_recv m ρ (peer c ⟨j, hj⟩) ⟨j, hj⟩ ⟨j, hj⟩)
      (oCopy c (j + 1)) (oCopy_step c j hj) (W := W)
      (by rw [payload_send m ρ c ⟨j, hj⟩]; exact BI.Entails.refl _)
      (by
        rw [payload_recv m ρ (peer c ⟨j, hj⟩) ⟨j, hj⟩]; unfold recvPay slotPts
        exact Entails.of_eq (pointsTo_congr (landed_copy m ρ c ⟨j, hj⟩ fd)))

include h1 in
/-- The copy at distance `j`. -/
theorem copy_step (n : Dev nD) (hn : n = peer c ⟨j, hj⟩) (off : Fin 2 → ℕ) (hoff : off = ![32 * (peer c ⟨j, hj⟩).val, 0])
    {inb : ∀ a, off a + S32x512.size a ≤ S512x512.size a}
    {hsc : (slotM j hj : Memref sig (Dev.tc n : Thread nD τ).2.kind .vmem S32x512 .f32).view.ref.isScScratch = false}
    {hsrc : (pM.slice (Rect.unit (s := S512x512) off S32x512.size inb) (fun _ => rfl)).view.WordExact} {hdst : (slotM j hj).view.WordExact}
    {hsem : DmaTarget.Typed .vmem (.dma (recvS j hj))
      (.remote (Dev.tc n : Thread nD τ) (slotM j hj : Memref sig (Dev.tc n : Thread nD τ).2.kind .vmem S32x512 .f32) (.dma (sendS j hj)) hsc)}
    {α : Type} {Q : α → sProp 𝕄} {kont : PUnit → Prog (TpuEff nD τ sig (Elt F) Λ₀ .tc) α} :
    iprop(records m ρ K ∗ copySt m ρ c j)
      ⊢ iprop((copySt m ρ c (j + 1) -∗ WP c (kont ⟨⟩) Q)
        -∗ WP c (.op (.enqueueDma (pM.slice (Rect.unit (s := S512x512) off S32x512.size inb) (fun _ => rfl))
            (.remote (Dev.tc n : Thread nD τ) (slotM j hj) (.dma (sendS j hj)) hsc) (.dma (recvS j hj)) hsrc hdst hsem) kont) Q) := by
  subst hn hoff
  unfold copySt
  rw [rem_step j hj, heap_insert (notMem_rem j hj), fin_step j h1 hj, heap_insert (notMem_fin j hj)]
  iintro ⟨#HR, ⟨%W, HO⟩, ⟨⟨Hrow, ⟨%fd, Hslot⟩, HtS, HtR⟩, Hrest⟩, Hdone⟩ Hk
  iapply (copy_rule m ρ K c j h1 hj fd W) $$ [Hrow Hslot HO HtS HtR]
  · isplitr; · iapply (inv_at m ρ K (c, .inr (.inl ⟨j, hj⟩))); iexact HR
    isplitr; · iapply (inv_at m ρ K (peer c ⟨j, hj⟩, .inr (.inr ⟨j, hj⟩))); iexact HR
    isplitl [Hrow]; · iexact Hrow
    isplitl [Hslot]; · iexact Hslot
    isplitl [HO]; · iexact HO
    isplitl [HtS]; · iexact HtS
    isplitr; · iapply (reached_at m ρ K (c, .inr (.inl ⟨j, hj⟩))); iexact HR
    isplitl [HtR]; · iexact HtR
    iapply (reached_at m ρ K (peer c ⟨j, hj⟩, .inr (.inr ⟨j, hj⟩))); iexact HR
  iintro ⟨HcS, HO⟩
  iapply Hk
  isplitl [HO]; · iexists W; iexact HO
  isplitl [Hrest]; · iexact Hrest
  isplitl [HcS]; · iexact HcS
  iexact Hdone

/-! ## Arrivals -/

/-- Before the arrival wait at distance `k`: for every distance left the arrival's credit and the cell's position; for every
    distance done the slot filled and the cell closed. -/
def recvSt (k : ℕ) : sProp 𝕄 :=
  iprop((∃ W, owes (c : Thread nD τ) 0 W)
    ∗ bigSep (rem k) (fun d => iprop(cred (tallyAt (recvCell c d) () N) ∗ atPos ER (recvCell c d) 0 ∅ 0))
    ∗ bigSep (fin k) (fun d => iprop(slotPts c d (landed m ρ c) ∗ semVal (recvCell c d) 0)))

include h1 in
/-- The arrival wait at distance `j`. -/
theorem recv_step {src : Memref sig .tc .vmem S32x512 .f32} {h₁ : src.view.WordExact}
    {h₂ : (slotM j hj).view.WordExact} {α : Type} {Q : α → sProp 𝕄} {kont : PUnit → Prog (TpuEff nD τ sig (Elt F) Λ₀ .tc) α} :
    iprop(records m ρ K ∗ recvSt m ρ c j)
      ⊢ iprop((recvSt m ρ c (j + 1) -∗ WP c (kont ⟨⟩) Q)
        -∗ WP c (.op (.waitDma2 (recvS j hj) src (slotM j hj) h₁ h₂) kont) Q) := by
  unfold recvSt
  rw [rem_step j hj, heap_insert (notMem_rem j hj), fin_step j h1 hj, heap_insert (notMem_fin j hj)]
  iintro ⟨#HR, ⟨%W, HO⟩, ⟨⟨Hc, Hat⟩, Hrest⟩, Hdone⟩ Hk
  iapply (Rounds.wp_wait_rest_token 𝒱₀ ER (sched m ρ) (c : Thread nD τ) none (κ := K (c, .inr (.inr ⟨j, hj⟩)))
      (wpE_waitDma2_eq 𝒱₀ (c : Thread nD τ) none Set.univ) (Set.mem_univ _) () (O := 0) (W := W) (R := 0) (m := 0) (T := ∅)
      (by rw [Nat.zero_add, expect_recv m ρ c ⟨j, hj⟩ h1])) $$ [Hc HO Hat]
  · isplitr; · iapply (inv_at m ρ K (c, .inr (.inr ⟨j, hj⟩))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c ⟨j, hj⟩ h1)) $$ Hpay
  imod (Rounds.cell_close ER (sched m ρ) (Set.mem_univ (K (c, .inr (.inr ⟨j, hj⟩)))) (fun h => h) (R := 0 + 1)
    (duties_later m ρ (recvCell c ⟨j, hj⟩))) $$ [Hat] with Hz
  · isplitr; · iapply (inv_at m ρ K (c, .inr (.inr ⟨j, hj⟩))); iexact HR
    iexact Hat
  iapply Hk
  isplitl [HO]; · iexists _; iexact HO
  isplitl [Hrest]; · iexact Hrest
  isplitr [Hdone]
  · isplitl [Hp]; · unfold recvPay; iexact Hp
    iexact Hz
  iexact Hdone

/-- A load of a slot held. -/
theorem slot_load {inb : ∀ a, (![j, 0, 0] : Fin 3 → ℕ) a + S1x32x512.size a ≤ S16x32x512.size a} {hl}
    {α : Type} {Q : α → sProp 𝕄} {kont : Vec F S1x32x512 .f32 → Prog (TpuEff nD τ sig (Elt F) Λ₀ .tc) α} :
    slotPts c ⟨j, hj⟩ (landed m ρ c)
      ⊢ iprop((slotPts c ⟨j, hj⟩ (landed m ρ c) -∗ WP c (kont (got m ρ c ⟨j, hj⟩)) Q)
        -∗ WP c (.op (.load cM (Rect.unit (s := S16x32x512) ![j, 0, 0] S1x32x512.size inb).toLoadRect hl) kont) Q) := by
  unfold slotPts
  refine wp_load 𝒱₀ (c : Thread nD τ) none Set.univ (m := cM) ?_
  rw [slotR_set]
  intro i hi
  obtain ⟨x, hx, rfl⟩ := Finset.mem_map.1 hi
  exact hx

include h1 in
/-- The load of the slot just filled. -/
theorem recv_load {inb : ∀ a, (![j, 0, 0] : Fin 3 → ℕ) a + S1x32x512.size a ≤ S16x32x512.size a} {hl}
    {α : Type} {Q : α → sProp 𝕄} {kont : Vec F S1x32x512 .f32 → Prog (TpuEff nD τ sig (Elt F) Λ₀ .tc) α} :
    recvSt m ρ c (j + 1)
      ⊢ iprop((recvSt m ρ c (j + 1) -∗ WP c (kont (got m ρ c ⟨j, hj⟩)) Q)
        -∗ WP c (.op (.load cM (Rect.unit (s := S16x32x512) ![j, 0, 0] S1x32x512.size inb).toLoadRect hl) kont) Q) := by
  unfold recvSt
  rw [fin_step j h1 hj, heap_insert (notMem_fin j hj)]
  iintro ⟨HO, Hrest, ⟨Hs, Hz⟩, Hdone⟩ Hk
  iapply (slot_load m ρ c j hj) $$ Hs; iintro Hs
  iapply Hk
  isplitl [HO]; · iexact HO
  isplitl [Hrest]; · iexact Hrest
  isplitr [Hdone]
  · isplitl [Hs] <;> iassumption
  iexact Hdone

/-! ## Departures -/

/-- Before the departure wait at distance `k`: for every distance left the departure's credit and the cell's position; for every
    distance done the rows back and the cell closed. -/
def sendSt (k : ℕ) : sProp 𝕄 :=
  iprop((∃ W, owes (c : Thread nD τ) 0 W)
    ∗ bigSep (rem k) (fun d => iprop(cred (tallyAt (sendCell c d) () N) ∗ atPos ER (sendCell c d) 0 ∅ 0))
    ∗ bigSep (fin k) (fun d => iprop(rowPts m ρ c (peer c d) ∗ semVal (sendCell c d) 0)))

include h1 in
/-- The departure wait at distance `j`. -/
theorem send_step {src : Memref sig .tc .vmem S32x512 .f32} {off : Fin 2 → ℕ}
    {inb : ∀ a, off a + S32x512.size a ≤ S512x512.size a} {h₁ : src.view.WordExact}
    {h₂ : (pM.slice (Rect.unit (s := S512x512) off S32x512.size inb) (fun _ => rfl)).view.WordExact}
    {α : Type} {Q : α → sProp 𝕄} {kont : PUnit → Prog (TpuEff nD τ sig (Elt F) Λ₀ .tc) α} :
    iprop(records m ρ K ∗ sendSt m ρ c j)
      ⊢ iprop((sendSt m ρ c (j + 1) -∗ WP c (kont ⟨⟩) Q)
        -∗ WP c (.op (.waitDma2 (sendS j hj) src (pM.slice (Rect.unit (s := S512x512) off S32x512.size inb) (fun _ => rfl)) h₁ h₂) kont) Q) := by
  unfold sendSt
  rw [rem_step j hj, heap_insert (notMem_rem j hj), fin_step j h1 hj, heap_insert (notMem_fin j hj)]
  iintro ⟨#HR, ⟨%W, HO⟩, ⟨⟨Hc, Hat⟩, Hrest⟩, Hdone⟩ Hk
  iapply (Rounds.wp_wait_rest_token 𝒱₀ ER (sched m ρ) (c : Thread nD τ) none (κ := K (c, .inr (.inl ⟨j, hj⟩)))
      (wpE_waitDma2_eq 𝒱₀ (c : Thread nD τ) none Set.univ) (Set.mem_univ _) () (O := 0) (W := W) (R := 0) (m := 0) (T := ∅)
      (by rw [Nat.zero_add, expect_send m ρ c ⟨j, hj⟩ h1]; rfl)) $$ [Hc HO Hat]
  · isplitr; · iapply (inv_at m ρ K (c, .inr (.inl ⟨j, hj⟩))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c ⟨j, hj⟩ h1)) $$ Hpay
  imod (Rounds.cell_close ER (sched m ρ) (Set.mem_univ (K (c, .inr (.inl ⟨j, hj⟩)))) (fun h => h) (R := 0 + 1)
    (duties_later m ρ (sendCell c ⟨j, hj⟩))) $$ [Hat] with Hz
  · isplitr; · iapply (inv_at m ρ K (c, .inr (.inl ⟨j, hj⟩))); iexact HR
    iexact Hat
  iapply Hk
  isplitl [HO]; · iexists _; iexact HO
  isplitl [Hrest]; · iexact Hrest
  isplitr [Hdone]
  · isplitl [Hp]; · unfold sendPay; iexact Hp
    iexact Hz
  iexact Hdone

end Rules

end Cert.Exchange
-- ==== Proof.Body.lean ====
/-
# The body of the kernel on one device

The kernel's text comes in numbered parts. Each part has one statement here: from the state before its steps to the state after them,
with everything else carried along unchanged. The last statement chains them.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind3 → ℕ)

/-- A part of the kernel, given the buffers and semaphores the call passes it. -/
abbrev onBufs {β : Type 1} (p : (arg0 : Memref sig .tc .vmem S512x256 .bf16) → arg0.IsWhole → (arg1 : Memref sig .tc .vmem S512x1 .i32) → arg1.IsWhole →
    (arg2 : Memref sig .tc .vmem S2x256x512 .bf16) → arg2.IsWhole → (arg3 : Memref sig .tc .vmem S32x512 .f32) → arg3.IsWhole →
    (arg4 : Memref sig .tc .vmem S512x512 .f32) → arg4.IsWhole → (arg5 : Memref sig .tc .vmem S16x32x512 .f32) → arg5.IsWhole →
    DmaSems sig S16 → DmaSems sig S16 → β) : β :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _) cc0_scratch2 cc0_scratch3

/-! ## Steps with everything else carried along -/

section Then
variable (c : Dev nD) (j : ℕ) (h1 : 1 ≤ j) (hj : j < 16)

/-- A run that ends at once. -/
theorem ret_then {α : Type} {Q : α → sProp 𝕄} {P : sProp 𝕄} {a : α} (h : P ⊢ Q a) : P ⊢ WP (F := F) c (.ret a) Q := by
  unfold WP; rw [wp_ret]
  iintro H
  imodintro
  iapply h
  iexact H

/-- A run of two stretches. -/
theorem bind_then {α β : Type} {Q : α → sProp 𝕄} {P : sProp 𝕄} {p : Prog (TpuEff nD τ sig (Elt F) Λ₀ .tc) β} {k : β → Prog (TpuEff nD τ sig (Elt F) Λ₀ .tc) α}
    (h : P ⊢ WP c p (fun b => WP c (k b) Q)) : P ⊢ WP c (p >>= k) Q := by
  unfold WP; rw [wp_bind]; exact h

include h1 in
theorem sig_then {α : Type} {Q : α → sProp 𝕄} {R : sProp 𝕄} (n : Dev nD) (hn : n = peer c ⟨j, hj⟩) {a : ℕ} (ha : a = 1) {kont : PUnit → Prog (TpuEff nD τ sig (Elt F) Λ₀ .tc) α}
    (h : iprop(records m ρ K ∗ sigSt (F := F) c (j + 1) ∗ R) ⊢ WP c (kont ⟨⟩) Q) :
    iprop(records m ρ K ∗ sigSt (F := F) c j ∗ R) ⊢ WP c (.op (.semSignal (n, .tc) barS a) kont) Q := by
  iintro ⟨#HR, H, HF⟩
  iapply (sig_step m ρ K c j h1 hj n hn ha) $$ [H]
  · isplitr; · iexact HR
    iexact H
  iintro H
  iapply h
  isplitr; · iexact HR
  isplitl [H] <;> iassumption

include h1 in
theorem copy_then {α : Type} {Q : α → sProp 𝕄} {R : sProp 𝕄} (n : Dev nD) (hn : n = peer c ⟨j, hj⟩) (off : Fin 2 → ℕ) (hoff : off = ![32 * (peer c ⟨j, hj⟩).val, 0])
    {inb : ∀ a, off a + S32x512.size a ≤ S512x512.size a}
    {hsc : (slotM j hj : Memref sig (Dev.tc n : Thread nD τ).2.kind .vmem S32x512 .f32).view.ref.isScScratch = false}
    {hsrc : (pM.slice (Rect.unit (s := S512x512) off S32x512.size inb) (fun _ => rfl)).view.WordExact} {hdst : (slotM j hj).view.WordExact}
    {hsem : DmaTarget.Typed .vmem (.dma (recvS j hj))
      (.remote (Dev.tc n : Thread nD τ) (slotM j hj : Memref sig (Dev.tc n : Thread nD τ).2.kind .vmem S32x512 .f32) (.dma (sendS j hj)) hsc)}
    {kont : PUnit → Prog (TpuEff nD τ sig (Elt F) Λ₀ .tc) α}
    (h : iprop(records m ρ K ∗ copySt m ρ c (j + 1) ∗ R) ⊢ WP c (kont ⟨⟩) Q) :
    iprop(records m ρ K ∗ copySt m ρ c j ∗ R)
      ⊢ WP c (.op (.enqueueDma (pM.slice (Rect.unit (s := S512x512) off S32x512.size inb) (fun _ => rfl))
            (.remote (Dev.tc n : Thread nD τ) (slotM j hj) (.dma (sendS j hj)) hsc) (.dma (recvS j hj)) hsrc hdst hsem) kont) Q := by
  iintro ⟨#HR, H, HF⟩
  iapply (copy_step m ρ K c j h1 hj n hn off hoff) $$ [H]
  · isplitr; · iexact HR
    iexact H
  iintro H
  iapply h
  isplitr; · iexact HR
  isplitl [H] <;> iassumption

include h1 in
/-- The wait for an arrival alone. -/
theorem wait_then {α : Type} {Q : α → sProp 𝕄} {R : sProp 𝕄} {src : Memref sig .tc .vmem S32x512 .f32} {h₁ : src.view.WordExact}
    {h₂ : (slotM j hj).view.WordExact} {kont : PUnit → Prog (TpuEff nD τ sig (Elt F) Λ₀ .tc) α}
    (h : iprop(records m ρ K ∗ recvSt m ρ c (j + 1) ∗ R) ⊢ WP c (kont ⟨⟩) Q) :
    iprop(records m ρ K ∗ recvSt m ρ c j ∗ R) ⊢ WP c (.op (.waitDma2 (recvS j hj) src (slotM j hj) h₁ h₂) kont) Q := by
  iintro ⟨#HR, H, HF⟩
  iapply (recv_step m ρ K c j h1 hj) $$ [H]
  · isplitr; · iexact HR
    iexact H
  iintro H
  iapply h
  isplitr; · iexact HR
  isplitl [H] <;> iassumption

include h1 in
/-- The load of the slot just filled, alone. -/
theorem load_then {α : Type} {Q : α → sProp 𝕄} {R : sProp 𝕄}
    {inb : ∀ a, (![j, 0, 0] : Fin 3 → ℕ) a + S1x32x512.size a ≤ S16x32x512.size a} {hl}
    {kont : Vec F S1x32x512 .f32 → Prog (TpuEff nD τ sig (Elt F) Λ₀ .tc) α}
    (h : iprop(records m ρ K ∗ recvSt m ρ c (j + 1) ∗ R) ⊢ WP c (kont (got m ρ c ⟨j, hj⟩)) Q) :
    iprop(records m ρ K ∗ recvSt m ρ c (j + 1) ∗ R)
      ⊢ WP c (.op (.load cM (Rect.unit (s := S16x32x512) ![j, 0, 0] S1x32x512.size inb).toLoadRect hl) kont) Q := by
  iintro ⟨#HR, H, HF⟩
  iapply (recv_load m ρ c j h1 hj) $$ H
  iintro H
  iapply h
  isplitr; · iexact HR
  isplitl [H] <;> iassumption

include h1 in
/-- The wait for an arrival and the load of the slot it filled. -/
theorem recv_then {α : Type} {Q : α → sProp 𝕄} {R : sProp 𝕄} {src : Memref sig .tc .vmem S32x512 .f32} {h₁ : src.view.WordExact}
    {h₂ : (slotM j hj).view.WordExact} {inb : ∀ a, (![j, 0, 0] : Fin 3 → ℕ) a + S1x32x512.size a ≤ S16x32x512.size a} {hl}
    {kont : Vec F S1x32x512 .f32 → Prog (TpuEff nD τ sig (Elt F) Λ₀ .tc) α}
    (h : iprop(records m ρ K ∗ recvSt m ρ c (j + 1) ∗ R) ⊢ WP c (kont (got m ρ c ⟨j, hj⟩)) Q) :
    iprop(records m ρ K ∗ recvSt m ρ c j ∗ R)
      ⊢ WP c (.op (.waitDma2 (recvS j hj) src (slotM j hj) h₁ h₂) fun _ =>
          .op (.load cM (Rect.unit (s := S16x32x512) ![j, 0, 0] S1x32x512.size inb).toLoadRect hl) kont) Q :=
  wait_then m ρ K c j h1 hj (load_then m ρ K c j h1 hj h)

include h1 in
theorem send_then {α : Type} {Q : α → sProp 𝕄} {R : sProp 𝕄} {src : Memref sig .tc .vmem S32x512 .f32} {off : Fin 2 → ℕ}
    {inb : ∀ a, off a + S32x512.size a ≤ S512x512.size a} {h₁ : src.view.WordExact}
    {h₂ : (pM.slice (Rect.unit (s := S512x512) off S32x512.size inb) (fun _ => rfl)).view.WordExact}
    {kont : PUnit → Prog (TpuEff nD τ sig (Elt F) Λ₀ .tc) α}
    (h : iprop(records m ρ K ∗ sendSt m ρ c (j + 1) ∗ R) ⊢ WP c (kont ⟨⟩) Q) :
    iprop(records m ρ K ∗ sendSt m ρ c j ∗ R)
      ⊢ WP c (.op (.waitDma2 (sendS j hj) src (pM.slice (Rect.unit (s := S512x512) off S32x512.size inb) (fun _ => rfl)) h₁ h₂) kont) Q := by
  iintro ⟨#HR, H, HF⟩
  iapply (send_step m ρ K c j h1 hj) $$ [H]
  · isplitr; · iexact HR
    iexact H
  iintro H
  iapply h
  isplitr; · iexact HR
  isplitl [H] <;> iassumption

end Then

/-- Where the rows for the device at distance `r + 1` start. -/
theorem off_at (c : Dev nD) (r : Fin 15) (h : r.val + 1 < 16) :
    k0_off2 c (BitVec.ofNat 32 (1 + r.val)) = ![32 * (peer c ⟨r.val + 1, h⟩).val, 0] := by
  rw [k0_off2_eq c r]
  show ![32 * ((c.val + r.val + 1) % 16), 0] = ![32 * ((c.val + (r.val + 1)) % 16), 0]
  rw [Nat.add_assoc]

/-- Device `c`'s buffer `b`, whole, at contents `f`. -/
abbrev pts (c : Dev nD) (b : Ref sig .tc) (f : b.ty.Contents (Elt F)) : sProp 𝕄 := ((c : Thread nD τ).loc b) ↦{fullShare} (f : Buf (Elt F) ((c : Thread nD τ).loc b))

theorem part1_run (c : Dev nD) {R : sProp 𝕄} {Q : _ → sProp 𝕄}
    (h : ∀ v w, iprop(records m ρ K ∗ sigSt (F := F) c 6 ∗ R) ⊢ Q ⟨c, half c, SemArray.scalar (sig.barrier 0 rfl), v, w⟩) :
    iprop(records m ρ K ∗ sigSt (F := F) c 1 ∗ R) ⊢ WP c (onBufs (k0_part1 (F := F))) Q := by
  rw [k0_part1_eq_skeleton]; unfold onBufs k0_part1_skel
  simp only [semSignalWord, semWaitWord, Prog.lift, Prog.bind_op, Prog.bind_ret, Prog.pure_eq_ret, wp_deviceId]
  refine sig_then m ρ K c 1 (by decide) (by decide) _ (by exact Fin.ext (k0_dev1_eq c)) rfl ?_
  refine sig_then m ρ K c 2 (by decide) (by decide) _ (by exact Fin.ext (k0_dev2_eq c)) rfl ?_
  refine sig_then m ρ K c 3 (by decide) (by decide) _ (by exact Fin.ext (k0_dev3_eq c)) rfl ?_
  refine sig_then m ρ K c 4 (by decide) (by decide) _ (by exact Fin.ext (k0_dev4_eq c)) rfl ?_
  refine sig_then m ρ K c 5 (by decide) (by decide) _ (by exact Fin.ext (k0_dev5_eq c)) rfl ?_
  exact ret_then c (h _ _)

theorem part2_run (c : Dev nD) {R : sProp 𝕄} {Q : _ → sProp 𝕄} {v2 v w : BitVec 32}
    (h : ∀ v w, iprop(records m ρ K ∗ sigSt (F := F) c 12 ∗ R) ⊢ Q ⟨v, w⟩) :
    iprop(records m ρ K ∗ sigSt (F := F) c 6 ∗ R)
      ⊢ WP c (onBufs (k0_part2 (F := F)) c v2 (SemArray.scalar (sig.barrier 0 rfl)) v w) Q := by
  rw [k0_part2_eq_skeleton]; unfold onBufs k0_part2_skel
  simp only [semSignalWord, semWaitWord, Prog.lift, Prog.bind_op, Prog.bind_ret, Prog.pure_eq_ret]
  refine sig_then m ρ K c 6 (by decide) (by decide) _ (by exact Fin.ext (k0_dev6_eq c)) rfl ?_
  refine sig_then m ρ K c 7 (by decide) (by decide) _ (by exact Fin.ext (k0_dev7_eq c)) rfl ?_
  refine sig_then m ρ K c 8 (by decide) (by decide) _ (by exact Fin.ext (k0_dev8_eq c)) rfl ?_
  refine sig_then m ρ K c 9 (by decide) (by decide) _ (by exact Fin.ext (k0_dev9_eq c)) rfl ?_
  refine sig_then m ρ K c 10 (by decide) (by decide) _ (by exact Fin.ext (k0_dev10_eq c)) rfl ?_
  refine sig_then m ρ K c 11 (by decide) (by decide) _ (by exact Fin.ext (k0_dev11_eq c)) rfl ?_
  exact ret_then c (h _ _)

/-- What the barrier wait needs besides the signals made. -/
def barIn (c : Dev nD) : sProp 𝕄 := iprop(levAts L lv ∗ cred (tallyAt (barCell c) () 15) ∗ atPos ER (barCell c) 0 ∅ 0)

theorem hz2 : (![0, 0] : Fin 2 → ℕ) = fun _ => 0 := by
  funext a
  match a with
  | ⟨0, _⟩ => rfl
  | ⟨1, _⟩ => rfl

/-- A load of a whole staged window is its contents. -/
theorem read_i (f : (cc0_stg1_0 : Ref sig .tc).ty.Contents (Elt F)) :
    (Memref.whole cc0_stg1_0 : Memref sig .tc .vmem S512x1 .i32).view.readAt (Elt F)
      (Rect.unit (s := S512x1) ![0, 0] S512x1.size inb_S512x1_S512x1_0_0).toLoadRect f = f :=
  Memref.readAt_unit_zero (Elt F) cc0_stg1_0 hz2 _ f
theorem read_x (f : (cc0_stg0_0 : Ref sig .tc).ty.Contents (Elt F)) :
    (Memref.whole cc0_stg0_0 : Memref sig .tc .vmem S512x256 .bf16).view.readAt (Elt F)
      (Rect.unit (s := S512x256) ![0, 0] S512x256.size inb_S512x256_S512x256_0_0).toLoadRect f = f :=
  Memref.readAt_unit_zero (Elt F) cc0_stg0_0 hz2 _ f
/-- A store over the whole partial sum leaves what was stored. -/
theorem write_p (f w : (cc0_scratch0 : Ref sig .tc).ty.Contents (Elt F)) :
    (pM.access (Rect.unit (s := S512x512) ![0, 0] S512x512.size inb_S512x512_S512x512_0_0) : View sig .tc _ _ _).write (Elt F) f w Finset.univ = w :=
  Memref.write_access_unit_zero_univ (Elt F) cc0_scratch0 hz2 _ f w
/-- A store over the whole result block leaves what was stored. -/
theorem write_o (f w : (cc0_stg3_0 : Ref sig .tc).ty.Contents (Elt F)) :
    ((Memref.whole cc0_stg3_0 : Memref sig .tc .vmem S32x512 .f32).access (Rect.unit (s := S32x512) ![0, 0] S32x512.size inb_S32x512_S32x512_0_0) :
      View sig .tc _ _ _).write (Elt F) f w Finset.univ = w :=
  Memref.write_access_unit_zero_univ (Elt F) cc0_stg3_0 hz2 _ f w

theorem part3_run (c : Dev nD) {R : sProp 𝕄} {Q : _ → sProp 𝕄} {v2 v w : BitVec 32}
    (h : iprop(records m ρ K ∗ barred (F := F) c ∗ pts c cc0_stg1_0 (iAt m ρ c) ∗ R)
      ⊢ Q ⟨iota .tc S512x32 32 [1] iota_S512x32_d1_w32, k0_pay1 (iAt m ρ c)⟩) :
    iprop(records m ρ K ∗ sigSt (F := F) c 12 ∗ barIn (F := F) c ∗ pts c cc0_stg1_0 (iAt m ρ c) ∗ R)
      ⊢ WP c (onBufs (k0_part3 (F := F)) c v2 (SemArray.scalar (sig.barrier 0 rfl)) v w) Q := by
  rw [k0_part3_eq_skeleton]; unfold onBufs k0_part3_skel
  simp only [semSignalWord, semWaitWord, Prog.lift, Prog.bind_op, Prog.bind_ret, Prog.pure_eq_ret]
  refine sig_then m ρ K c 12 (by decide) (by decide) _ (by exact Fin.ext (k0_dev12_eq c)) rfl ?_
  refine sig_then m ρ K c 13 (by decide) (by decide) _ (by exact Fin.ext (k0_dev13_eq c)) rfl ?_
  refine sig_then m ρ K c 14 (by decide) (by decide) _ (by exact Fin.ext (k0_dev14_eq c)) rfl ?_
  refine sig_then m ρ K c 15 (by decide) (by decide) _ (by exact Fin.ext (k0_dev15_eq c)) rfl ?_
  unfold barIn
  iintro ⟨#HR, H, ⟨#Hl, Hc, Ha⟩, Hi, HF⟩
  iapply (bar_wait m ρ K c rfl) $$ [H Hc Ha]
  · isplitr; · iexact HR
    isplitr; · iexact Hl
    isplitl [H]; · iexact H
    isplitl [Hc] <;> iassumption
  iintro H
  iapply (wp_load 𝒱₀ (c : Thread nD τ) none Set.univ (m := Memref.whole cc0_stg1_0) (Finset.subset_univ _)) $$ Hi; iintro Hi
  rw [read_i]
  iapply (ret_then c h)
  isplitr; · iexact HR
  isplitl [H]; · iexact H
  isplitl [Hi] <;> iassumption

theorem part4_run (c : Dev nD) {R : sProp 𝕄} {Q : _ → sProp 𝕄} {v2 : BitVec 32} {v66 : IVec S512x32 32} {v79 : IVec S512x32 1}
    (h : iprop(pts c cc0_stg0_0 (xAt m ρ c) ∗ pts c cc0_stg2_0 (wAt m ρ c) ∗ R)
      ⊢ Q (k0_pay2 v2 v66 v79 (xAt m ρ c) (wSlice 0 inb_S2x256x512_S1x256x512_0_0_0 (wAt m ρ c)) (wSlice 1 inb_S2x256x512_S1x256x512_1_0_0 (wAt m ρ c)))) :
    iprop(pts c cc0_stg0_0 (xAt m ρ c) ∗ pts c cc0_stg2_0 (wAt m ρ c) ∗ R) ⊢ WP c (onBufs (k0_part4 (F := F)) v2 v66 v79) Q := by
  rw [k0_part4_eq_skeleton]; unfold onBufs k0_part4_skel
  simp only [semSignalWord, semWaitWord, Prog.lift, Prog.bind_op, Prog.bind_ret, Prog.pure_eq_ret]
  iintro ⟨Hx, Hw, HF⟩
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg2_0) (Finset.subset_univ _)) $$ Hw; iintro Hw
  iapply (wp_load 𝒱₀ (c : Thread nD τ) none Set.univ (m := Memref.whole cc0_stg2_0) (Finset.subset_univ _)) $$ Hw; iintro Hw
  iapply (ret_then c h)
  isplitl [Hx]; · iexact Hx
  isplitl [Hw] <;> iassumption

/-- The two tokens of the copy at distance `d`. -/
def copyToks (c : Dev nD) (d : Fin 16) : sProp 𝕄 := iprop(dutyTok ER (sendCell c d) 0 d ∗ dutyTok ER (recvCell (peer c d) d) 0 d)

theorem peer_zero (c : Dev nD) : peer c 0 = c := by
  have : c.val < 16 := c.isLt
  exact Fin.ext (by show (c.val + 0) % 16 = c.val; omega)

/-- The partial sum in place, the device is ready for its copies and keeps its own rows. -/
theorem copy_start (c : Dev nD) :
    iprop(pts c cc0_scratch0 (part m ρ c) ∗ (∃ W, owes (c : Thread nD τ) (oCopy c 1) W)
        ∗ bigSep (rem 1) (fun e => iprop(∃ f, slotPts (F := F) (peer c e) e f)) ∗ bigSep (rem 1) (copyToks (F := F) c))
      ⊢ iprop(copySt m ρ c 1 ∗ rowPts m ρ c c) := by
  unfold pts
  rw [rows_eq, rows_eq_around, univ_rem, heap_insert zero_notMem_rem, peer_zero]
  unfold copySt
  rw [fin_one, bigSep_empty, show (fun d => iprop(rowPts m ρ c (peer c d) ∗ (∃ f, slotPts (F := F) (peer c d) d f)
        ∗ dutyTok ER (sendCell c d) 0 d ∗ dutyTok ER (recvCell (peer c d) d) 0 d) : Fin 16 → sProp 𝕄)
      = (fun d => iprop(rowPts m ρ c (peer c d) ∗ iprop((∃ f, slotPts (F := F) (peer c d) d f) ∗ copyToks (F := F) c d))) from rfl,
    bigSep_sep', bigSep_sep']
  iintro ⟨⟨Hown, Hrows⟩, HO, Hs, Ht⟩
  isplitr [Hown]
  · isplitl [HO]; · iexact HO
    isplitl [Hrows Hs Ht]
    · isplitl [Hrows]; · iexact Hrows
      isplitl [Hs] <;> iassumption
    iempintro
  iexact Hown

/-- The own rows, as the kernel's access names them. -/
theorem own_rect (c : Dev nD) (f : (cc0_scratch0 : Ref sig .tc).ty.Contents (Elt F)) (inb) :
    pM.view.readAt (Elt F) (Rect.unit (s := S512x512) (k0_off1 c) S32x512.size inb).toLoadRect f
      = pM.view.readAt (Elt F) (rowR c.val c.isLt).toLoadRect f := by
  have e := k0_off1_eq c
  generalize k0_off1 c = off at inb e ⊢
  subst e
  rfl

theorem own_store_sub : (cM.access (slotR 0 lt16)).setOn Finset.univ ⊆ (slotM (0 : Fin 16).val (0 : Fin 16).isLt).view.set := by
  rw [slotR_set]
  intro i hi
  have h : i ∈ (slotR 0 lt16).set := by rw [← slotA_set 0 lt16]; exact hi
  exact h

/-- The own rows stored in slot 0 fill it. -/
theorem own_slot (c : Dev nD) (f : (cc0_scratch1 : Ref sig .tc).ty.Contents (Elt F)) :
    ((cM.access (slotR 0 lt16)).loc (c : Thread nD τ) ↦[(slotM (0 : Fin 16).val (0 : Fin 16).isLt).view.set]{fullShare}
        ((cM.access (slotR 0 lt16)).write (Elt F) f (k0_pay4 (pM.view.readAt (Elt F) (rowR c.val c.isLt).toLoadRect (part m ρ c))) Finset.univ) : sProp 𝕄)
      = slotPts c 0 (landed m ρ c) := by
  unfold slotPts
  exact pointsTo_congr fun i hi => landed_own m ρ c f i (by rw [slotA_set, ← slotR_set]; exact hi)

theorem part5_run (c : Dev nD) {R : sProp 𝕄} {Q : _ → sProp 𝕄} {v2 : BitVec 32} {v118 : FVec F S512x512 .f32} (hv : k0_pay3 v118 = part m ρ c)
    (h : ∀ v w, iprop(records m ρ K ∗ copySt m ρ c 2 ∗ rowPts m ρ c c ∗ slotPts c 0 (landed m ρ c) ∗ R) ⊢ Q ⟨v, w⟩) :
    iprop(records m ρ K ∗ (∃ f, pts c cc0_scratch0 f) ∗ (∃ f, slotPts (F := F) c 0 f)
        ∗ ((∃ W, owes (c : Thread nD τ) (oCopy c 1) W)
          ∗ bigSep (rem 1) (fun e => iprop(∃ f, slotPts (F := F) (peer c e) e f)) ∗ bigSep (rem 1) (copyToks (F := F) c)) ∗ R)
      ⊢ WP c (onBufs (k0_part5 (F := F)) c v2 v118) Q := by
  rw [k0_part5_eq_skeleton]; unfold onBufs k0_part5_skel
  simp only [semSignalWord, semWaitWord, Prog.lift, Prog.bind_op, Prog.bind_ret, Prog.pure_eq_ret]
  rw [hv]
  iintro ⟨#HR, ⟨%f0, Hp⟩, ⟨%f1, Hs⟩, Hc, HF⟩
  iapply (wp_load 𝒱₀ (c : Thread nD τ) none Set.univ (m := Memref.whole cc0_scratch0) (Finset.subset_univ _)) $$ Hp; iintro Hp
  iapply (wp_store 𝒱₀ (c : Thread nD τ) none Set.univ (m := pM)
      (r := Rect.unit (s := S512x512) ![0, 0] S512x512.size inb_S512x512_S512x512_0_0) (Mk := Finset.univ) (Finset.subset_univ _)) $$ Hp; iintro Hp
  rw [write_p]
  iapply (wp_load 𝒱₀ (c : Thread nD τ) none Set.univ (m := Memref.whole cc0_scratch0) (Finset.subset_univ _)) $$ Hp; iintro Hp
  rw [own_rect]
  unfold slotPts
  iapply (wp_load 𝒱₀ (c : Thread nD τ) none Set.univ (m := cM) (by rw [slotR_set]; intro i hi; obtain ⟨x, hx, rfl⟩ := Finset.mem_map.1 hi; exact hx)) $$ Hs; iintro Hs
  iapply (wp_store 𝒱₀ (c : Thread nD τ) none Set.univ (m := cM) (r := slotR 0 lt16) (Mk := Finset.univ) own_store_sub) $$ Hs; iintro Hs
  ihave Hc := (copy_start m ρ c) $$ [Hp Hc]
  · isplitl [Hp]; · iexact Hp
    iexact Hc
  icases Hc with ⟨Hc, Hown⟩
  ihave Hs := (Entails.of_eq (own_slot m ρ c f1)) $$ Hs
  iapply (show iprop(records m ρ K ∗ copySt m ρ c 1 ∗ (rowPts m ρ c c ∗ slotPts c 0 (landed m ρ c) ∗ R)) ⊢ _ from ?_)
  · refine copy_then m ρ K c 1 (by decide) (by decide) _ (by exact Fin.ext (k0_dev16_eq c)) _ (by exact off_at c ⟨0, by decide⟩ (by decide)) ?_
    exact ret_then c (h _ _)
  isplitr; · iexact HR
  isplitl [Hc]; · iexact Hc
  isplitl [Hown]; · iexact Hown
  isplitl [Hs] <;> iassumption

theorem part6_run (c : Dev nD) {R : sProp 𝕄} {Q : _ → sProp 𝕄} {v2 : BitVec 32}
    (h : ∀ u v w, iprop(records m ρ K ∗ copySt m ρ c 5 ∗ R) ⊢ Q ⟨u, v, w⟩) :
    iprop(records m ρ K ∗ copySt m ρ c 2 ∗ R) ⊢ WP c (onBufs (k0_part6 (F := F)) c v2) Q := by
  rw [k0_part6_eq_skeleton]; unfold onBufs k0_part6_skel
  simp only [semSignalWord, semWaitWord, Prog.lift, Prog.bind_op, Prog.bind_ret, Prog.pure_eq_ret]
  refine copy_then m ρ K c 2 (by decide) (by decide) _ (by exact Fin.ext (k0_dev17_eq c)) _ (by exact off_at c ⟨1, by decide⟩ (by decide)) ?_
  refine copy_then m ρ K c 3 (by decide) (by decide) _ (by exact Fin.ext (k0_dev18_eq c)) _ (by exact off_at c ⟨2, by decide⟩ (by decide)) ?_
  refine copy_then m ρ K c 4 (by decide) (by decide) _ (by exact Fin.ext (k0_dev19_eq c)) _ (by exact off_at c ⟨3, by decide⟩ (by decide)) ?_
  exact ret_then c (h _ _ _)

theorem part7_run (c : Dev nD) {R : sProp 𝕄} {Q : _ → sProp 𝕄} {v2 x : BitVec 32}
    (h : ∀ u v, iprop(records m ρ K ∗ copySt m ρ c 7 ∗ R) ⊢ Q ⟨u, v⟩) :
    iprop(records m ρ K ∗ copySt m ρ c 5 ∗ R) ⊢ WP c (onBufs (k0_part7 (F := F)) c v2 x) Q := by
  rw [k0_part7_eq_skeleton]; unfold onBufs k0_part7_skel
  simp only [semSignalWord, semWaitWord, Prog.lift, Prog.bind_op, Prog.bind_ret, Prog.pure_eq_ret]
  refine copy_then m ρ K c 5 (by decide) (by decide) _ (by exact Fin.ext (k0_dev20_eq c)) _ (by exact off_at c ⟨4, by decide⟩ (by decide)) ?_
  refine copy_then m ρ K c 6 (by decide) (by decide) _ (by exact Fin.ext (k0_dev21_eq c)) _ (by exact off_at c ⟨5, by decide⟩ (by decide)) ?_
  exact ret_then c (h _ _)

theorem part8_run (c : Dev nD) {R : sProp 𝕄} {Q : _ → sProp 𝕄} {v2 : BitVec 32}
    (h : ∀ u v w, iprop(records m ρ K ∗ copySt m ρ c 10 ∗ R) ⊢ Q ⟨u, v, w⟩) :
    iprop(records m ρ K ∗ copySt m ρ c 7 ∗ R) ⊢ WP c (onBufs (k0_part8 (F := F)) c v2) Q := by
  rw [k0_part8_eq_skeleton]; unfold onBufs k0_part8_skel
  simp only [semSignalWord, semWaitWord, Prog.lift, Prog.bind_op, Prog.bind_ret, Prog.pure_eq_ret]
  refine copy_then m ρ K c 7 (by decide) (by decide) _ (by exact Fin.ext (k0_dev22_eq c)) _ (by exact off_at c ⟨6, by decide⟩ (by decide)) ?_
  refine copy_then m ρ K c 8 (by decide) (by decide) _ (by exact Fin.ext (k0_dev23_eq c)) _ (by exact off_at c ⟨7, by decide⟩ (by decide)) ?_
  refine copy_then m ρ K c 9 (by decide) (by decide) _ (by exact Fin.ext (k0_dev24_eq c)) _ (by exact off_at c ⟨8, by decide⟩ (by decide)) ?_
  exact ret_then c (h _ _ _)

theorem part9_run (c : Dev nD) {R : sProp 𝕄} {Q : _ → sProp 𝕄} {v2 x : BitVec 32}
    (h : ∀ u v, iprop(records m ρ K ∗ copySt m ρ c 12 ∗ R) ⊢ Q ⟨u, v⟩) :
    iprop(records m ρ K ∗ copySt m ρ c 10 ∗ R) ⊢ WP c (onBufs (k0_part9 (F := F)) c v2 x) Q := by
  rw [k0_part9_eq_skeleton]; unfold onBufs k0_part9_skel
  simp only [semSignalWord, semWaitWord, Prog.lift, Prog.bind_op, Prog.bind_ret, Prog.pure_eq_ret]
  refine copy_then m ρ K c 10 (by decide) (by decide) _ (by exact Fin.ext (k0_dev25_eq c)) _ (by exact off_at c ⟨9, by decide⟩ (by decide)) ?_
  refine copy_then m ρ K c 11 (by decide) (by decide) _ (by exact Fin.ext (k0_dev26_eq c)) _ (by exact off_at c ⟨10, by decide⟩ (by decide)) ?_
  exact ret_then c (h _ _)

theorem part10_run (c : Dev nD) {R : sProp 𝕄} {Q : _ → sProp 𝕄} {v2 : BitVec 32}
    (h : ∀ u v w, iprop(records m ρ K ∗ copySt m ρ c 15 ∗ R) ⊢ Q ⟨u, v, w⟩) :
    iprop(records m ρ K ∗ copySt m ρ c 12 ∗ R) ⊢ WP c (onBufs (k0_part10 (F := F)) c v2) Q := by
  rw [k0_part10_eq_skeleton]; unfold onBufs k0_part10_skel
  simp only [semSignalWord, semWaitWord, Prog.lift, Prog.bind_op, Prog.bind_ret, Prog.pure_eq_ret]
  refine copy_then m ρ K c 12 (by decide) (by decide) _ (by exact Fin.ext (k0_dev27_eq c)) _ (by exact off_at c ⟨11, by decide⟩ (by decide)) ?_
  refine copy_then m ρ K c 13 (by decide) (by decide) _ (by exact Fin.ext (k0_dev28_eq c)) _ (by exact off_at c ⟨12, by decide⟩ (by decide)) ?_
  refine copy_then m ρ K c 14 (by decide) (by decide) _ (by exact Fin.ext (k0_dev29_eq c)) _ (by exact off_at c ⟨13, by decide⟩ (by decide)) ?_
  exact ret_then c (h _ _ _)

/-- What the arrival waits need. -/
def recvIn (c : Dev nD) : sProp 𝕄 :=
  bigSep (rem 1) (fun d => iprop(cred (tallyAt (recvCell c d) () N) ∗ atPos ER (recvCell c d) 0 ∅ 0))
/-- The credits of the departures. -/
def sendCreds (c : Dev nD) : sProp 𝕄 := bigSep (rem 1) (fun d => cred (tallyAt (sendCell c d) () N))
/-- The positions of the departure cells. -/
def sendPos (c : Dev nD) : sProp 𝕄 := bigSep (rem 1) (fun d => atPos ER (sendCell c d) 0 ∅ 0)

/-- Every copy started, the device is ready for the arrivals. -/
theorem copy_done (c : Dev nD) : iprop(copySt m ρ c 16 ∗ recvIn (F := F) c) ⊢ iprop(recvSt m ρ c 1 ∗ sendCreds (F := F) c) := by
  unfold copySt recvSt recvIn sendCreds
  rw [fin_last, rem_last, bigSep_empty, fin_one, bigSep_empty, oCopy_last]
  iintro ⟨⟨HO, -, Hc⟩, Hr⟩
  isplitr [Hc]
  · isplitl [HO]; · iexact HO
    isplitl [Hr]; · iexact Hr
    iempintro
  iexact Hc

/-- The load of the own slot. -/
theorem own_load (c : Dev nD) {inb : ∀ a, (![0, 0, 0] : Fin 3 → ℕ) a + S1x32x512.size a ≤ S16x32x512.size a} {hl}
    {α : Type} {Q : α → sProp 𝕄} {kont : Vec F S1x32x512 .f32 → Prog (TpuEff nD τ sig (Elt F) Λ₀ .tc) α} :
    slotPts c 0 (landed m ρ c)
      ⊢ iprop((slotPts c 0 (landed m ρ c) -∗ WP c (kont (got m ρ c 0)) Q)
        -∗ WP c (.op (.load cM (Rect.unit (s := S16x32x512) ![0, 0, 0] S1x32x512.size inb).toLoadRect hl) kont) Q) :=
  slot_load m ρ c 0 lt16

theorem part11_run (c : Dev nD) {R : sProp 𝕄} {Q : _ → sProp 𝕄} {u v w : BitVec 32}
    (h : iprop(records m ρ K ∗ recvSt m ρ c 2 ∗ slotPts c 0 (landed m ρ c) ∗ sendCreds (F := F) c ∗ R) ⊢ Q (k0_pay5 (got m ρ c 0) (got m ρ c 1))) :
    iprop(records m ρ K ∗ copySt m ρ c 15 ∗ (slotPts c 0 (landed m ρ c) ∗ recvIn (F := F) c ∗ R))
      ⊢ WP c (onBufs (k0_part11 (F := F)) c u v w) Q := by
  rw [k0_part11_eq_skeleton]; unfold onBufs k0_part11_skel
  simp only [semSignalWord, semWaitWord, Prog.lift, Prog.bind_op, Prog.bind_ret, Prog.pure_eq_ret]
  refine copy_then m ρ K c 15 (by decide) (by decide) _ (by exact Fin.ext (k0_dev30_eq c)) _ (by exact off_at c ⟨14, by decide⟩ (by decide)) ?_
  iintro ⟨#HR, H, Hs, Hr, HF⟩
  iapply (own_load m ρ c) $$ Hs; iintro Hs
  ihave H := (copy_done m ρ c) $$ [H Hr]
  · isplitl [H] <;> iassumption
  icases H with ⟨H, Hc⟩
  iapply (show iprop(records m ρ K ∗ recvSt m ρ c 1 ∗ (slotPts c 0 (landed m ρ c) ∗ sendCreds (F := F) c ∗ R)) ⊢ _ from ?_)
  · refine recv_then m ρ K c 1 (by decide) (by decide) ?_
    exact ret_then c h
  isplitr; · iexact HR
  isplitl [H]; · iexact H
  isplitl [Hs]; · iexact Hs
  isplitl [Hc] <;> iassumption

theorem part12_run (c : Dev nD) {R : sProp 𝕄} {Q : _ → sProp 𝕄} {u v w : BitVec 32} {z : FVec F S32x512 .f32}
    (h : iprop(records m ρ K ∗ recvSt m ρ c 5 ∗ R) ⊢ Q (k0_pay6 z (got m ρ c 2) (got m ρ c 3) (got m ρ c 4))) :
    iprop(records m ρ K ∗ recvSt m ρ c 2 ∗ R) ⊢ WP c (onBufs (k0_part12 (F := F)) c u v w z) Q := by
  rw [k0_part12_eq_skeleton]; unfold onBufs k0_part12_skel
  simp only [semSignalWord, semWaitWord, Prog.lift, Prog.bind_op, Prog.bind_ret, Prog.pure_eq_ret]
  refine recv_then m ρ K c 2 (by decide) (by decide) ?_
  refine recv_then m ρ K c 3 (by decide) (by decide) ?_
  refine recv_then m ρ K c 4 (by decide) (by decide) ?_
  exact ret_then c h

theorem part13_run (c : Dev nD) {R : sProp 𝕄} {Q : _ → sProp 𝕄} {u v : BitVec 32} {z : FVec F S32x512 .f32}
    (h : iprop(records m ρ K ∗ recvSt m ρ c 8 ∗ R) ⊢ Q (k0_pay7 z (got m ρ c 5) (got m ρ c 6) (got m ρ c 7))) :
    iprop(records m ρ K ∗ recvSt m ρ c 5 ∗ R) ⊢ WP c (onBufs (k0_part13 (F := F)) c u v z) Q := by
  rw [k0_part13_eq_skeleton]; unfold onBufs k0_part13_skel
  simp only [semSignalWord, semWaitWord, Prog.lift, Prog.bind_op, Prog.bind_ret, Prog.pure_eq_ret]
  refine recv_then m ρ K c 5 (by decide) (by decide) ?_
  refine recv_then m ρ K c 6 (by decide) (by decide) ?_
  refine recv_then m ρ K c 7 (by decide) (by decide) ?_
  exact ret_then c h

theorem part14_run (c : Dev nD) {R : sProp 𝕄} {Q : _ → sProp 𝕄} {u v w : BitVec 32} {z : FVec F S32x512 .f32}
    (h : iprop(records m ρ K ∗ recvSt m ρ c 11 ∗ R) ⊢ Q (k0_pay8 z (got m ρ c 8) (got m ρ c 9))) :
    iprop(records m ρ K ∗ recvSt m ρ c 8 ∗ R) ⊢ WP c (onBufs (k0_part14 (F := F)) c u v w z) Q := by
  rw [k0_part14_eq_skeleton]; unfold onBufs k0_part14_skel
  simp only [semSignalWord, semWaitWord, Prog.lift, Prog.bind_op, Prog.bind_ret, Prog.pure_eq_ret]
  refine recv_then m ρ K c 8 (by decide) (by decide) ?_
  refine recv_then m ρ K c 9 (by decide) (by decide) ?_
  refine wait_then m ρ K c 10 (by decide) (by decide) ?_
  exact ret_then c h

theorem part15_run (c : Dev nD) {R : sProp 𝕄} {Q : _ → sProp 𝕄} {u v w : BitVec 32} {z : FVec F S32x512 .f32}
    (h : iprop(records m ρ K ∗ recvSt m ρ c 13 ∗ R) ⊢ Q (k0_pay9 z (got m ρ c 10) (got m ρ c 11) (got m ρ c 12))) :
    iprop(records m ρ K ∗ recvSt m ρ c 11 ∗ R) ⊢ WP c (onBufs (k0_part15 (F := F)) c u v w z) Q := by
  rw [k0_part15_eq_skeleton]; unfold onBufs k0_part15_skel
  simp only [semSignalWord, semWaitWord, Prog.lift, Prog.bind_op, Prog.bind_ret, Prog.pure_eq_ret]
  refine load_then m ρ K c 10 (by decide) (by decide) ?_
  refine recv_then m ρ K c 11 (by decide) (by decide) ?_
  refine recv_then m ρ K c 12 (by decide) (by decide) ?_
  exact ret_then c h

theorem part16_run (c : Dev nD) {R : sProp 𝕄} {Q : _ → sProp 𝕄} {u v : BitVec 32} {z : FVec F S32x512 .f32}
    (h : iprop(records m ρ K ∗ recvSt m ρ c 16 ∗ pts c cc0_stg3_0 (k0_pay10 z (got m ρ c 13) (got m ρ c 14) (got m ρ c 15)) ∗ R) ⊢ Q ⟨⟩) :
    iprop(records m ρ K ∗ recvSt m ρ c 13 ∗ ((∃ f, pts c cc0_stg3_0 f) ∗ R)) ⊢ WP c (onBufs (k0_part16 (F := F)) c u v z) Q := by
  rw [k0_part16_eq_skeleton]; unfold onBufs k0_part16_skel
  simp only [semSignalWord, semWaitWord, Prog.lift, Prog.bind_op, Prog.bind_ret, Prog.pure_eq_ret]
  refine recv_then m ρ K c 13 (by decide) (by decide) ?_
  refine recv_then m ρ K c 14 (by decide) (by decide) ?_
  refine recv_then m ρ K c 15 (by decide) (by decide) ?_
  iintro ⟨#HR, H, ⟨%f, Ho⟩, HF⟩
  iapply (wp_load 𝒱₀ (c : Thread nD τ) none Set.univ (m := Memref.whole cc0_stg3_0) (Finset.subset_univ _)) $$ Ho; iintro Ho
  iapply (wp_store 𝒱₀ (c : Thread nD τ) none Set.univ (m := (Memref.whole cc0_stg3_0 : Memref sig .tc .vmem S32x512 .f32))
      (r := Rect.unit (s := S32x512) ![0, 0] S32x512.size inb_S32x512_S32x512_0_0) (Mk := Finset.univ) (Finset.subset_univ _)) $$ Ho; iintro Ho
  rw [write_o]
  iapply (ret_then c h)
  isplitr; · iexact HR
  isplitl [H]; · iexact H
  isplitl [Ho]; · iexact Ho
  iexact HF

theorem part17_run (c : Dev nD) {R : sProp 𝕄} {Q : _ → sProp 𝕄} (h : iprop(records m ρ K ∗ sendSt m ρ c 5 ∗ R) ⊢ Q ⟨⟩) :
    iprop(records m ρ K ∗ sendSt m ρ c 1 ∗ R) ⊢ WP c (onBufs (k0_part17 (F := F)) c) Q := by
  rw [k0_part17_eq_skeleton]; unfold onBufs k0_part17_skel
  simp only [semSignalWord, semWaitWord, Prog.lift, Prog.bind_op, Prog.bind_ret, Prog.pure_eq_ret]
  refine send_then m ρ K c 1 (by decide) (by decide) ?_
  refine send_then m ρ K c 2 (by decide) (by decide) ?_
  refine send_then m ρ K c 3 (by decide) (by decide) ?_
  refine send_then m ρ K c 4 (by decide) (by decide) ?_
  exact ret_then c h

theorem part18_run (c : Dev nD) {R : sProp 𝕄} {Q : _ → sProp 𝕄} (h : iprop(records m ρ K ∗ sendSt m ρ c 10 ∗ R) ⊢ Q ⟨⟩) :
    iprop(records m ρ K ∗ sendSt m ρ c 5 ∗ R) ⊢ WP c (onBufs (k0_part18 (F := F)) c) Q := by
  rw [k0_part18_eq_skeleton]; unfold onBufs k0_part18_skel
  simp only [semSignalWord, semWaitWord, Prog.lift, Prog.bind_op, Prog.bind_ret, Prog.pure_eq_ret]
  refine send_then m ρ K c 5 (by decide) (by decide) ?_
  refine send_then m ρ K c 6 (by decide) (by decide) ?_
  refine send_then m ρ K c 7 (by decide) (by decide) ?_
  refine send_then m ρ K c 8 (by decide) (by decide) ?_
  refine send_then m ρ K c 9 (by decide) (by decide) ?_
  exact ret_then c h

theorem part19_run (c : Dev nD) {R : sProp 𝕄} {Q : _ → sProp 𝕄} (h : iprop(records m ρ K ∗ sendSt m ρ c 15 ∗ R) ⊢ Q ⟨⟩) :
    iprop(records m ρ K ∗ sendSt m ρ c 10 ∗ R) ⊢ WP c (onBufs (k0_part19 (F := F)) c) Q := by
  rw [k0_part19_eq_skeleton]; unfold onBufs k0_part19_skel
  simp only [semSignalWord, semWaitWord, Prog.lift, Prog.bind_op, Prog.bind_ret, Prog.pure_eq_ret]
  refine send_then m ρ K c 10 (by decide) (by decide) ?_
  refine send_then m ρ K c 11 (by decide) (by decide) ?_
  refine send_then m ρ K c 12 (by decide) (by decide) ?_
  refine send_then m ρ K c 13 (by decide) (by decide) ?_
  refine send_then m ρ K c 14 (by decide) (by decide) ?_
  exact ret_then c h

/-! ## The whole body -/

/-- The kernel's result on device `c`: the sixteen slots added up, from slot 0 on. -/
def outAt (c : Dev nD) : FVec F S32x512 .f32 :=
  k0_pay10 (k0_pay9 (k0_pay8 (k0_pay7 (k0_pay6 (k0_pay5 (got m ρ c 0) (got m ρ c 1)) (got m ρ c 2) (got m ρ c 3) (got m ρ c 4))
    (got m ρ c 5) (got m ρ c 6) (got m ρ c 7)) (got m ρ c 8) (got m ρ c 9)) (got m ρ c 10) (got m ρ c 11) (got m ρ c 12))
    (got m ρ c 13) (got m ρ c 14) (got m ρ c 15)

/-- The three staged inputs. -/
def ins (c : Dev nD) : sProp 𝕄 := iprop(pts c cc0_stg0_0 (xAt m ρ c) ∗ pts c cc0_stg1_0 (iAt m ρ c) ∗ pts c cc0_stg2_0 (wAt m ρ c))

/-- What the arrivals have left: the slots filled and their cells closed. -/
def arrived (c : Dev nD) : sProp 𝕄 := bigSep (rem 1) (fun d => iprop(slotPts c d (landed m ρ c) ∗ semVal (recvCell c d) 0))
/-- What the departures have left: the rows back and their cells closed. -/
def departed (c : Dev nD) : sProp 𝕄 := bigSep (rem 1) (fun d => iprop(rowPts m ρ c (peer c d) ∗ semVal (sendCell c d) 0))

/-- Every arrival waited for, the device is ready for the departures. -/
theorem recv_done (c : Dev nD) :
    iprop(recvSt m ρ c 16 ∗ sendCreds (F := F) c ∗ sendPos (F := F) c) ⊢ iprop(sendSt m ρ c 1 ∗ arrived m ρ c) := by
  unfold recvSt sendSt arrived sendCreds sendPos
  rw [fin_last, rem_last, bigSep_empty, fin_one, bigSep_empty, bigSep_sep' (rem 1) (fun d => cred (tallyAt (sendCell c d) () N))]
  iintro ⟨⟨HO, -, Ha⟩, Hc, Hp⟩
  isplitr [Ha]
  · isplitl [HO]; · iexact HO
    isplitl [Hc Hp]
    · isplitl [Hc] <;> iassumption
    iempintro
  iexact Ha

/-- Every departure waited for. -/
theorem send_done (c : Dev nD) : sendSt m ρ c 16 ⊢ iprop((∃ W, owes (c : Thread nD τ) 0 W) ∗ departed m ρ c) := by
  unfold sendSt departed
  rw [fin_last, rem_last, bigSep_empty]
  iintro ⟨HO, -, Ha⟩
  isplitl [HO] <;> iassumption

/-! What is held, put in the order the next part wants it. -/

section Order
variable {U : Type} [URA U] {A B C D E G I J O P S T V W X Y Z : sProp U}
theorem order4 : iprop(A ∗ (O ∗ S ∗ Z) ∗ I ∗ X ∗ W ∗ P ∗ B ∗ C ∗ T) ⊢ iprop(X ∗ W ∗ (A ∗ P ∗ B ∗ (O ∗ S ∗ C) ∗ (Z ∗ I ∗ T))) := by
  iintro ⟨HA, ⟨HO, HS, HZ⟩, HI, HX, HW, HP, HB, HC, HT⟩
  isplitl [HX]; · iexact HX
  isplitl [HW]; · iexact HW
  isplitl [HA]; · iexact HA
  isplitl [HP]; · iexact HP
  isplitl [HB]; · iexact HB
  isplitl [HO HS HC]
  · isplitl [HO]; · iexact HO
    isplitl [HS]; · iexact HS
    iexact HC
  isplitl [HZ]; · iexact HZ
  isplitl [HI]; · iexact HI
  iexact HT
theorem order5 : iprop(X ∗ W ∗ (A ∗ P ∗ B ∗ C ∗ T)) ⊢ iprop(A ∗ P ∗ B ∗ C ∗ (X ∗ W ∗ T)) := by
  iintro ⟨HX, HW, ⟨HA, HP, HB, HC, HT⟩⟩
  isplitl [HA]; · iexact HA
  isplitl [HP]; · iexact HP
  isplitl [HB]; · iexact HB
  isplitl [HC]; · iexact HC
  isplitl [HX]; · iexact HX
  isplitl [HW]; · iexact HW
  iexact HT
theorem order11 : iprop(A ∗ B ∗ C ∗ S ∗ (X ∗ W ∗ (Z ∗ I ∗ D ∗ E ∗ O ∗ T))) ⊢ iprop(A ∗ B ∗ (S ∗ D ∗ (O ∗ E ∗ C ∗ (X ∗ I ∗ W) ∗ Z ∗ T))) := by
  iintro ⟨HA, HB, HC, HS, ⟨HX, HW, ⟨HZ, HI, HD, HE, HO, HT⟩⟩⟩
  isplitl [HA]; · iexact HA
  isplitl [HB]; · iexact HB
  isplitl [HS]; · iexact HS
  isplitl [HD]; · iexact HD
  isplitl [HO]; · iexact HO
  isplitl [HE]; · iexact HE
  isplitl [HC]; · iexact HC
  isplitl [HX HI HW]
  · isplitl [HX]; · iexact HX
    isplitl [HI]; · iexact HI
    iexact HW
  isplitl [HZ]; · iexact HZ
  iexact HT
theorem order16 : iprop(A ∗ B ∗ S ∗ C ∗ (O ∗ T)) ⊢ iprop(A ∗ B ∗ (O ∗ (S ∗ C ∗ T))) := by
  iintro ⟨HA, HB, HS, HC, ⟨HO, HT⟩⟩
  isplitl [HA]; · iexact HA
  isplitl [HB]; · iexact HB
  isplitl [HO]; · iexact HO
  isplitl [HS]; · iexact HS
  isplitl [HC]; · iexact HC
  iexact HT
theorem order17 (h : iprop(B ∗ C ∗ E) ⊢ iprop(G ∗ J)) :
    iprop(A ∗ B ∗ O ∗ (S ∗ C ∗ (E ∗ P ∗ X ∗ Z ∗ T))) ⊢ iprop(A ∗ G ∗ (J ∗ S ∗ P ∗ Z ∗ X ∗ O ∗ T)) := by
  iintro ⟨HA, HB, HO, HS, HC, HE, HP, HX, HZ, HT⟩
  ihave H := h $$ [HB HC HE]
  · isplitl [HB]; · iexact HB
    isplitl [HC] <;> iassumption
  icases H with ⟨HG, HJ⟩
  isplitl [HA]; · iexact HA
  isplitl [HG]; · iexact HG
  isplitl [HJ]; · iexact HJ
  isplitl [HS]; · iexact HS
  isplitl [HP]; · iexact HP
  isplitl [HZ]; · iexact HZ
  isplitl [HX]; · iexact HX
  isplitl [HO]; · iexact HO
  iexact HT
end Order

/-- The body on device `c`: from the state before the first signal, with the three staged inputs, a partial-sum buffer, slot 0
    and a result buffer at whatever contents, to the state after the last departure wait, the result in place. -/
theorem body_run (c : Dev nD) {T : sProp 𝕄} {Q : _ → sProp 𝕄}
    (h : iprop(records m ρ K ∗ sendSt m ρ c 16 ∗ (arrived m ρ c ∗ slotPts c 0 (landed m ρ c) ∗ rowPts m ρ c c ∗ semVal (barCell c) 0
        ∗ (pts c cc0_stg0_0 (xAt m ρ c) ∗ pts c cc0_stg1_0 (iAt m ρ c) ∗ pts c cc0_stg2_0 (wAt m ρ c)) ∗ pts c cc0_stg3_0 (outAt m ρ c) ∗ T))
      ⊢ |={Set.univ}=> Q ⟨⟩) :
    iprop(records m ρ K ∗ sigSt (F := F) c 1 ∗ (barIn (F := F) c ∗ pts c cc0_stg1_0 (iAt m ρ c) ∗ (pts c cc0_stg0_0 (xAt m ρ c)
        ∗ pts c cc0_stg2_0 (wAt m ρ c) ∗ ((∃ f, pts c cc0_scratch0 f) ∗ (∃ f, slotPts (F := F) c 0 f)
        ∗ bigSep (rem 1) (copyToks (F := F) c) ∗ (recvIn (F := F) c ∗ sendPos (F := F) c ∗ (∃ f, pts c cc0_stg3_0 f) ∗ T)))))
      ⊢ WP c (onBufs (cc0_body (F := F))) Q := by
  rw [cc0_body_eq_skeleton]; unfold onBufs cc0_body_skel
  refine bind_then c (part1_run m ρ K c fun v24 w24 => ?_)
  refine bind_then c (part2_run m ρ K c fun v48 w48 => ?_)
  refine bind_then c (part3_run m ρ K c ?_)
  unfold barred
  refine order4.trans (bind_then c (part4_run m ρ c (order5.trans ?_)))
  refine bind_then c (part5_run m ρ K c rfl fun v129 v141 => ?_)
  refine bind_then c (part6_run m ρ K c fun v153 v165 v177 => ?_)
  refine bind_then c (part7_run m ρ K c fun v189 v201 => ?_)
  refine bind_then c (part8_run m ρ K c fun v213 v225 v237 => ?_)
  refine bind_then c (part9_run m ρ K c fun v249 v261 => ?_)
  refine bind_then c (part10_run m ρ K c fun v273 v285 v297 => ?_)
  refine order11.trans (bind_then c (part11_run m ρ K c ?_))
  refine bind_then c (part12_run m ρ K c ?_)
  refine bind_then c (part13_run m ρ K c ?_)
  refine bind_then c (part14_run m ρ K c ?_)
  refine bind_then c (part15_run m ρ K c ?_)
  refine order16.trans (bind_then c (part16_run m ρ K c ?_))
  refine (order17 (recv_done m ρ c)).trans (bind_then c (part17_run m ρ K c ?_))
  refine bind_then c (part18_run m ρ K c ?_)
  refine bind_then c (part19_run m ρ K c ?_)
  simp only [Prog.lift, Prog.bind_op, Prog.bind_ret, Prog.pure_eq_ret]
  refine send_then m ρ K c 15 (by decide) (by decide) ?_
  unfold WP; rw [wp_ret]
  exact h

end Cert.Exchange
-- ==== Proof.Sound.lean ====
/-
# What the kernel does on one device, as the pipeline sees it

The pipeline stages the device's `x`, routing indices and weights, calls the body once and writes the result back. This module
says what the device holds before and after the call, and proves the body takes the one to the other.
-/
module

public import proofs.«01_k».proof.Proof.Body

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind3 → ℕ)

/-! ## Before and after -/

/-- The tokens device `c` pays with: one per other device's barrier, two per copy. -/
def payToks (c : Dev nD) : sProp 𝕄 :=
  iprop(bigSep (rem 1) (fun d => dutyTok ER (barCell (peer c d)) 0 (opp d)) ∗ bigSep (rem 1) (copyToks (F := F) c))
/-- Device `c`'s positions at its cells, and the tokens it pays with. -/
def linear (c : Dev nD) : sProp 𝕄 :=
  iprop(atPos ER (barCell c) 0 ∅ 0 ∗ bigSep Finset.univ (fun d : Fin 16 => atPos ER (sendCell c d) 0 ∅ 0)
    ∗ bigSep Finset.univ (fun d : Fin 16 => atPos ER (recvCell c d) 0 ∅ 0) ∗ payToks (F := F) c)
/-- What device `c` starts from: the cells' invariants at some names, its positions and tokens, its credits, the level facts. -/
def start (c : Dev nD) : sProp 𝕄 :=
  iprop((∃ K, records m ρ K ∗ linear (F := F) c) ∗ cred (tallyAt (barCell c) () 15)
    ∗ bigSep (rem 1) (fun d => cred (tallyAt (recvCell c d) () N)) ∗ levAts L lv)

/-- Before the call: that, and the two scratch buffers at any contents. -/
def Φ₀ (c : Dev nD) : sProp 𝕄 := iprop(start m ρ c ∗ (∃ f, pts c cc0_scratch0 f) ∗ (∃ f, pts c cc0_scratch1 f))
/-- After it: the two scratch buffers at any contents, and every cell closed at zero. -/
def Φ₁ (c : Dev nD) : sProp 𝕄 :=
  iprop((∃ f, pts c cc0_scratch0 f) ∗ (∃ f, pts c cc0_scratch1 f)
    ∗ bigSep Finset.univ (fun d : Fin 16 => (semVal (sendCell c d) 0 : sProp 𝕄))
    ∗ bigSep Finset.univ (fun d : Fin 16 => (semVal (recvCell c d) 0 : sProp 𝕄)) ∗ semVal (barCell c) 0)

/-- What the pipeline is told of device `c`: its arrays as launched; what the body leaves in each staging buffer; the states
    above; the debts at launch, none after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => iAt m ρ c
    | ⟨2, _⟩ => wAt m ρ c
    | ⟨3, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- A whole staging buffer owned at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body's two ends -/

/-- A slot at some contents. -/
theorem slot_some (c : Dev nD) (d : Fin 16) (f : (cc0_scratch1 : Ref sig .tc).ty.Contents (Elt F)) :
    slotPts (F := F) c d f ⊢ iprop(∃ f, slotPts (F := F) c d f) := by
  iintro H; iexists f; iexact H

/-- The receiving buffer in slots, turned round: slot 0 for the device itself, the others to hand out. -/
theorem slots_out (c : Dev nD) :
    iprop(∃ f, pts (F := F) c cc0_scratch1 f) ⊢ iprop((∃ f, slotPts (F := F) c 0 f) ∗ bigSep (rem 1) (fun d => iprop(∃ f, slotPts (F := F) c (opp d) f))) := by
  iintro ⟨%f, H⟩
  ihave H := (Entails.of_eq ((slots_eq c f).trans ((bigSep_univ_equiv turn (fun d => slotPts (F := F) c d f)).trans
    (by rw [univ_rem, heap_insert zero_notMem_rem])))) $$ H
  icases H with ⟨H0, H⟩
  isplitl [H0]
  · iexists f; iexact H0
  have hm : (bigSep (rem 1) (fun d => slotPts (F := F) c (opp d) f) : sProp 𝕄) ⊢ bigSep (rem 1) (fun d => iprop(∃ f, slotPts (F := F) c (opp d) f)) :=
    bigSep_mono fun d _ => slot_some c (opp d) f
  iapply hm
  iexact H

/-- A family over all distances from its member at 0 and the others. -/
theorem univ_join {Φ : Fin 16 → sProp 𝕄} : iprop(Φ 0 ∗ bigSep (rem 1) Φ) = bigSep Finset.univ Φ := by
  rw [univ_rem, heap_insert zero_notMem_rem]

/-- At the start: what the body's run wants, out of what the device holds. -/
theorem body_in (c : Dev nD) {X I Y O : sProp 𝕄} :
    iprop((linear (F := F) c ∗ cred (tallyAt (barCell c) () 15)
        ∗ bigSep (rem 1) (fun d => cred (tallyAt (recvCell c d) () N)) ∗ levAts L lv)
      ∗ (∃ f, pts c cc0_scratch0 f) ∗ (∃ f, pts c cc0_scratch1 f) ∗ (∃ W, owes (c : Thread nD τ) (O₀ c) W) ∗ X ∗ I ∗ Y ∗ O)
    ⊢ iprop(sigSt (F := F) c 1 ∗ (barIn (F := F) c ∗ I ∗ (X ∗ Y ∗ ((∃ f, pts c cc0_scratch0 f) ∗ (∃ f, slotPts (F := F) c 0 f)
        ∗ bigSep (rem 1) (copyToks (F := F) c) ∗ (recvIn (F := F) c ∗ sendPos (F := F) c ∗ O
        ∗ (atPos ER (sendCell c 0) 0 ∅ 0 ∗ atPos ER (recvCell c 0) 0 ∅ 0)))))) := by
  unfold linear payToks sigSt barIn recvIn sendPos O₀
  rw [bigSep_sep', bigSep_sep', ← univ_join (Φ := fun d => atPos ER (sendCell c d) 0 ∅ 0), ← univ_join (Φ := fun d => atPos ER (recvCell c d) 0 ∅ 0)]
  iintro ⟨⟨⟨HaB, ⟨HaS0, HaS⟩, ⟨HaR0, HaR⟩, HtB, HtC⟩, HcB, HcR, Hlev⟩, Hp, Hc, HO, HX, HI, HY, HOut⟩
  ihave Hs := (slots_out c) $$ Hc
  icases Hs with ⟨Hs0, Hs⟩
  isplitl [HO HtB Hs]
  · isplitl [HO]; · iexact HO
    isplitl [HtB]; · iexact HtB
    iexact Hs
  isplitl [Hlev HcB HaB]
  · isplitl [Hlev]; · iexact Hlev
    isplitl [HcB] <;> iassumption
  isplitl [HI]; · iexact HI
  isplitl [HX]; · iexact HX
  isplitl [HY]; · iexact HY
  isplitl [Hp]; · iexact Hp
  isplitl [Hs0]; · iexact Hs0
  isplitl [HtC]; · iexact HtC
  isplitl [HcR HaR]
  · isplitl [HcR] <;> iassumption
  isplitl [HaS]; · iexact HaS
  isplitl [HOut]; · iexact HOut
  isplitl [HaS0] <;> iassumption

/-- At the end: the buffers whole again and every cell closed. -/
theorem body_out (c : Dev nD) {J : sProp 𝕄} :
    iprop(records m ρ K ∗ sendSt m ρ c 16 ∗ (arrived m ρ c ∗ slotPts c 0 (landed m ρ c) ∗ rowPts m ρ c c ∗ semVal (barCell c) 0
        ∗ J ∗ pts c cc0_stg3_0 (outAt m ρ c) ∗ (atPos ER (sendCell c 0) 0 ∅ 0 ∗ atPos ER (recvCell c 0) 0 ∅ 0)))
      ⊢ |={Set.univ}=> iprop(Φ₁ (F := F) c ∗ (∃ W, owes (c : Thread nD τ) 0 W) ∗ J ∗ pts c cc0_stg3_0 (outAt m ρ c)) := by
  iintro ⟨#HR, Hsend, Harr, Hs0, Hrow, HzB, HJ, Hout, HaS, HaR⟩
  ihave Hd := (send_done m ρ c) $$ Hsend
  icases Hd with ⟨HO, Hd⟩
  imod (Rounds.cell_close ER (sched m ρ) (Set.mem_univ (K (c, .inr (.inl 0)))) (fun h => h) (R := 0)
    (fun r _ => by
      rcases Nat.eq_zero_or_pos r with rfl | h
      · exact duties_send_zero m ρ c
      · exact duties_later m ρ (sendCell c 0) r h)) $$ [HaS] with HzS
  · isplitr; · iapply (inv_at m ρ K (c, .inr (.inl 0))); iexact HR
    iexact HaS
  imod (Rounds.cell_close ER (sched m ρ) (Set.mem_univ (K (c, .inr (.inr 0)))) (fun h => h) (R := 0)
    (fun r _ => by
      rcases Nat.eq_zero_or_pos r with rfl | h
      · exact duties_recv_zero m ρ c
      · exact duties_later m ρ (recvCell c 0) r h)) $$ [HaR] with HzR
  · isplitr; · iapply (inv_at m ρ K (c, .inr (.inr 0))); iexact HR
    iexact HaR
  imodintro
  unfold arrived departed
  ihave Ha := (Entails.of_eq (bigSep_sep' (rem 1) (fun d => slotPts c d (landed m ρ c)) (fun d => (semVal (recvCell c d) 0 : sProp 𝕄)))) $$ Harr
  ihave Hd := (Entails.of_eq (bigSep_sep' (rem 1) (fun d => rowPts m ρ c (peer c d)) (fun d => (semVal (sendCell c d) 0 : sProp 𝕄)))) $$ Hd
  icases Ha with ⟨Hslots, HzRs⟩
  icases Hd with ⟨Hrows, HzSs⟩
  unfold Φ₁
  isplitr [HO HJ Hout]
  · isplitl [Hrow Hrows]
    · iexists (part m ρ c)
      iapply (Entails.of_eq ((rows_eq m ρ c).trans ((rows_eq_around m ρ c).trans (univ_join (Φ := fun d => rowPts m ρ c (peer c d))).symm)).symm)
      rw [peer_zero]
      isplitl [Hrow] <;> iassumption
    isplitl [Hs0 Hslots]
    · iexists (landed m ρ c)
      iapply (Entails.of_eq ((slots_eq c (landed m ρ c)).trans (univ_join (Φ := fun d => slotPts c d (landed m ρ c))).symm).symm)
      isplitl [Hs0] <;> iassumption
    isplitl [HzS HzSs]
    · iapply (Entails.of_eq (univ_join (Φ := fun d => (semVal (sendCell c d) 0 : sProp 𝕄))))
      isplitl [HzS] <;> iassumption
    isplitl [HzR HzRs]
    · iapply (Entails.of_eq (univ_join (Φ := fun d => (semVal (recvCell c d) 0 : sProp 𝕄))))
      isplitl [HzR] <;> iassumption
    iexact HzB
  isplitl [HO]; · iexact HO
  isplitl [HJ] <;> iassumption

/-! ## The obligation -/

/-- What the pipeline gives the body on device `c`. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- What it takes back. -/
def bodyPost (c : Dev nD) : sProp 𝕄 :=
  iprop(Φ₁ (F := F) c ∗ (dats m ρ 0 c).owesAt () t0_0.succ ∗ stg c cc0_stg0_0 (xAt m ρ c) ∗ stg c cc0_stg1_0 (iAt m ρ c)
    ∗ stg c cc0_stg2_0 (wAt m ρ c) ∗ stg c cc0_stg3_0 (outAt m ρ c))

/-- The whole contents, named. -/
theorem stg_intro (c : Dev nD) (b : Ref sig .tc) (X : b.ty.Contents (Elt F)) : pts (F := F) c b X ⊢ stg c b X := by
  iintro H
  iexists X
  isplitr; · (ipureintro; rfl)
  iexact H
/-- A staged input holds its block. -/
theorem stg_elim (c : Dev nD) (b : Ref sig .tc) {D : Type} (g : D → b.ty.Contents (Elt F)) (X : b.ty.Contents (Elt F)) (h : ∀ d, g d = X) :
    iprop(∃ d, stg (F := F) c b (g d)) ⊢ pts (F := F) c b X := by
  iintro ⟨%d, %f, %hf, H⟩
  have hf : f = X := hf.trans (h d)
  subst hf
  iexact H

/-- What the run leaves, in the pipeline's words. -/
theorem post_intro (c : Dev nD) :
    iprop(Φ₁ (F := F) c ∗ (∃ W, owes (c : Thread nD τ) 0 W)
        ∗ (pts c cc0_stg0_0 (xAt m ρ c) ∗ pts c cc0_stg1_0 (iAt m ρ c) ∗ pts c cc0_stg2_0 (wAt m ρ c)) ∗ pts c cc0_stg3_0 (outAt m ρ c))
      ⊢ bodyPost m ρ c := by
  unfold bodyPost Dat.owesAt Pipeline.owesWithin
  rw [show (dats m ρ 0 c).owed t0_0.succ = 0 from rfl]
  iintro ⟨HΦ, ⟨%W, HO⟩, ⟨HX, HI, HW⟩, Hout⟩
  isplitl [HΦ]; · iexact HΦ
  isplitl [HO]
  · iexists W
    isplitr; · ipureintro; exact fun _ _ => Or.inl trivial
    iexact HO
  isplitl [HX]; · iapply (stg_intro c cc0_stg0_0 (xAt m ρ c)); iexact HX
  isplitl [HI]; · iapply (stg_intro c cc0_stg1_0 (iAt m ρ c)); iexact HI
  isplitl [HW]; · iapply (stg_intro c cc0_stg2_0 (wAt m ρ c)); iexact HW
  iapply (stg_intro c cc0_stg3_0 (outAt m ρ c)); iexact Hout

/-- The body takes what the pipeline gives to what it takes back. -/
theorem sound_body (c : Dev nD) : bodyPre m ρ c ⊢ WP c (onBufs (cc0_body (F := F))) (fun _ => bodyPost m ρ c) := by
  unfold bodyPre Φ₀ start Dat.owesAt Pipeline.owesWithin
  rw [show (dats m ρ 0 c).owed t0_0.castSucc = O₀ c from rfl]
  iintro ⟨⟨⟨⟨%K, #HR, Hlin⟩, HcB, HcR, Hlev⟩, Hp, Hc⟩, ⟨%W, %hW, HO⟩, Hx, Hi, Hw, ⟨%d3, %g3, %hg3, Ho⟩⟩
  ihave Hx := (stg_elim c cc0_stg0_0 _ (xAt m ρ c) (fun d => by unfold Dat.before; rw [if_pos (fetch0_0 t0_0)]; rfl)) $$ Hx
  ihave Hi := (stg_elim c cc0_stg1_0 _ (iAt m ρ c) (fun d => by unfold Dat.before; rw [if_pos (fetch0_1 t0_0)]; rfl)) $$ Hi
  ihave Hw := (stg_elim c cc0_stg2_0 _ (wAt m ρ c) (fun d => by unfold Dat.before; rw [if_pos (fetch0_2 t0_0)]; rfl)) $$ Hw
  iapply (body_run m ρ K c ((body_out m ρ K c).trans (BI.fupd_mono (post_intro m ρ c))))
  isplitr; · iexact HR
  iapply (body_in c)
  isplitl [Hlin HcB HcR Hlev]
  · isplitl [Hlin]; · iexact Hlin
    isplitl [HcB]; · iexact HcB
    isplitl [HcR] <;> iassumption
  isplitl [Hp]; · iexact Hp
  isplitl [Hc]; · iexact Hc
  isplitl [HO]; · iexists W; iexact HO
  isplitl [Hx]; · iexact Hx
  isplitl [Hi]; · iexact Hi
  isplitl [Hw]; · iexact Hw
  iexists g3; iexact Ho

/-- The pipeline's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.Exchange
-- ==== Proof.Launch.lean ====
/-
# The launch

Every semaphore starts at zero. The launch opens the exchange's cells, mints the tokens of every duty and deals each token to the
device that pays with it, and gives each device the credits the others owe it. From there the sixteen devices run to the end, and
the last statement says what every final state holds.
-/
module

public import proofs.«01_k».proof.Proof.Sound
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind3 → ℕ)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (_ | d | d) (_ | e | e) h
  · rfl
  · exact absurd h.symm (send_ne_bar e)
  · exact absurd h.symm (recv_ne_bar e)
  · exact absurd h (send_ne_bar d)
  · rw [send_inj h]
  · exact absurd h (send_ne_recv d e)
  · exact absurd h (recv_ne_bar d)
  · exact absurd h.symm (send_ne_recv e d)
  · rw [recv_inj h]

theorem kcell_injective : Function.Injective kcell := by
  rintro ⟨c, k⟩ ⟨e, l⟩ h
  have h1 : c = e := congrArg (fun g : GSem nD τ sig => g.1.1) h
  subst h1
  exact congrArg (Prod.mk c) (csem_injective (congrArg Prod.snd h : csem k = csem l))

/-- Every cell of the exchange. -/
def allCells : Finset (GSem nD τ sig) := Finset.univ.map ⟨kcell, kcell_injective⟩

/-- A duty: a device, which of its three kinds of cell, a distance. -/
abbrev Duty : Type := Dev nD × (Fin 16 ⊕ (Fin 16 ⊕ Fin 16))
/-- The cell and name of a duty. -/
abbrev tokOf (x : Duty) : GSem nD τ sig × ℕ × Fin 16 := match x.2 with
  | .inl d => (barCell x.1, 0, d)
  | .inr (.inl d) => (sendCell x.1 d, 0, d)
  | .inr (.inr d) => (recvCell x.1 d, 0, d)
theorem tokOf_injective : Function.Injective tokOf := by
  rintro ⟨c, k⟩ ⟨e, l⟩ h
  have h1 : c = e := by
    have h := congrArg (fun x : GSem nD τ sig × ℕ × Fin 16 => x.1.1.1) h
    rcases k with d | d | d <;> rcases l with d' | d' | d' <;> exact h
  subst h1
  have h2 := congrArg (fun x : GSem nD τ sig × ℕ × Fin 16 => x.1.2) h
  have h3 := congrArg (fun x : GSem nD τ sig × ℕ × Fin 16 => x.2.2) h
  rcases k with d | d | d <;> rcases l with d' | d' | d'
  · rw [show d = d' from h3]
  · exact absurd h2.symm (send_ne_bar d')
  · exact absurd h2.symm (recv_ne_bar d')
  · exact absurd h2 (send_ne_bar d)
  · rw [show d = d' from h3]
  · exact absurd h2 (send_ne_recv d d')
  · exact absurd h2 (recv_ne_bar d)
  · exact absurd h2.symm (send_ne_recv d' d)
  · rw [show d = d' from h3]
/-- Every duty's token. -/
def allToks : Finset (GSem nD τ sig × ℕ × Fin 16) := Finset.univ.map ⟨tokOf, tokOf_injective⟩

/-- The ghost state at launch: the pipeline's and the exchange's. -/
def u₀ : UU := (initOf (Pipeline.cells cfgs cellOf_inj) (Pipeline.launchToks cfgs cellOf_inj), initOf allCells allToks)

/-- The tokens of the duties on device `c`'s own cells. -/
def toks (c : Dev nD) : sProp 𝕄 :=
  iprop(bigSep Finset.univ (fun d : Fin 16 => dutyTok ER (barCell c) 0 d)
    ∗ bigSep Finset.univ (fun d : Fin 16 => dutyTok ER (sendCell c d) 0 d)
    ∗ bigSep Finset.univ (fun d : Fin 16 => dutyTok ER (recvCell c d) 0 d))

/-- What the launch deals device `c` first: its cells' round states, its positions and the marks that its cells have
    reached round 0, the tokens on its own cells. -/
def G (c : Dev nD) : sProp 𝕄 :=
  iprop((bigSep Finset.univ fun k : Kind3 => roundState ER (sched m ρ) (kcell (c, k)) 0)
    ∗ (bigSep Finset.univ fun k : Kind3 => iprop(atPos ER (kcell (c, k)) 0 ∅ 0 ∗ reached ER (kcell (c, k)) 0)) ∗ toks (F := F) c)

/-- What it holds once invariants are allocated and the tokens dealt. -/
def G' (c : Dev nD) : sProp 𝕄 := iprop(∃ K, records m ρ K ∗ linear (F := F) c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Kind3 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- A family over the kinds of cell: the barrier's, the departures', the arrivals'. -/
theorem bigSep_kind (Φ : Kind3 → sProp 𝕄) : bigSep Finset.univ Φ
    = iprop(Φ (.inl ()) ∗ bigSep Finset.univ (fun d : Fin 16 => Φ (.inr (.inl d))) ∗ bigSep Finset.univ (fun d : Fin 16 => Φ (.inr (.inr d)))) := by
  rw [bigSep_univ_sum, bigSep_univ_sum, show (Finset.univ : Finset Unit) = {()} from rfl, bigSep_singleton]; rfl

theorem ownSems0_eq (c : Dev nD) : (Pipeline.ownSems0 (Ix := Unit) (Name := ℕ) (U := UU) (Lvl := ℕ) (Val := Elt F) (τ := τ) osem c : sProp 𝕄)
    = iprop(bigSep Finset.univ (fun d : Fin 16 => (semVal (sendCell c d) 0 : sProp 𝕄)) ∗ bigSep Finset.univ (fun d : Fin 16 => (semVal (recvCell c d) 0 : sProp 𝕄))) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kind3 => semVal (kcell (c, k)) 0 : sProp 𝕄) := by
  rw [ownSems0_eq, unscopedSems0_eq, bigSep_kind]
  iintro ⟨⟨HS, HV⟩, HB⟩
  isplitl [HB]; · iexact HB
  isplitl [HS] <;> iassumption

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Kind3 => semVal (kcell (c, k)) 0) ∗ bigSep Finset.univ fun k : Kind3 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

/-- The device at a distance, and the distance back: its own inverse. -/
def across : Dev nD × Fin 16 ≃ Dev nD × Fin 16 :=
  ⟨fun x => (peer x.1 x.2, opp x.2), fun x => (peer x.1 x.2, opp x.2),
    fun x => Prod.ext (peer_peer_opp x.1 x.2) (opp_opp x.2), fun x => Prod.ext (peer_peer_opp x.1 x.2) (opp_opp x.2)⟩
/-- The device at a distance, the distance kept. -/
def along : Dev nD × Fin 16 ≃ Dev nD × Fin 16 :=
  ⟨fun x => (peer x.1 x.2, x.2), fun x => (prev x.1 x.2, x.2),
    fun x => Prod.ext (prev_peer x.1 x.2) rfl, fun x => Prod.ext (peer_prev x.1 x.2) rfl⟩

/-- A family over devices and distances dealt out along a rearrangement. -/
theorem deal (e : Dev nD × Fin 16 ≃ Dev nD × Fin 16) (Φ : Dev nD → Fin 16 → sProp 𝕄) :
    (bigSep Finset.univ fun c : Dev nD => bigSep Finset.univ fun d : Fin 16 => Φ c d)
      = bigSep Finset.univ fun c : Dev nD => bigSep Finset.univ fun d : Fin 16 => Φ (e (c, d)).1 (e (c, d)).2 := by
  rw [← bigSep_univ_prod (fun x : Dev nD × Fin 16 => Φ x.1 x.2), bigSep_univ_equiv e (fun x : Dev nD × Fin 16 => Φ x.1 x.2), bigSep_univ_prod]

/-- A device keeps the tokens at distances from 1. -/
theorem pay_intro (c : Dev nD) :
    iprop(bigSep Finset.univ (fun d : Fin 16 => dutyTok ER (barCell (peer c d)) 0 (opp d))
        ∗ bigSep Finset.univ (fun d : Fin 16 => dutyTok ER (sendCell c d) 0 d)
        ∗ bigSep Finset.univ (fun d : Fin 16 => dutyTok ER (recvCell (peer c d) d) 0 d))
      ⊢ payToks (F := F) c := by
  unfold payToks
  rw [show (copyToks (F := F) c) = (fun d => iprop(dutyTok ER (sendCell c d) 0 d ∗ dutyTok ER (recvCell (peer c d) d) 0 d)) from rfl, bigSep_sep']
  rw [univ_rem, heap_insert zero_notMem_rem, heap_insert zero_notMem_rem, heap_insert zero_notMem_rem]
  iintro ⟨⟨-, H1⟩, ⟨-, H2⟩, ⟨-, H3⟩⟩
  isplitl [H1]; · iexact H1
  isplitl [H2] <;> iassumption

/-- Every token goes to the device that pays with it. -/
theorem toks_dealt : (bigSep Finset.univ fun c : Dev nD => (toks (F := F) c : sProp 𝕄)) ⊢ bigSep Finset.univ fun c : Dev nD => payToks (F := F) c := by
  refine BI.Entails.trans ?_ (bigSep_mono fun c _ => pay_intro (F := F) c)
  unfold toks
  simp only [bigSep_sep']
  rw [deal across (fun c d => (dutyTok ER (barCell c) 0 d : sProp 𝕄)), deal along (fun c d => (dutyTok ER (recvCell c d) 0 d : sProp 𝕄))]
  exact BI.Entails.refl _

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Kind3 => iprop(∃ κ : ℕ, cellInv ER (sched m ρ) κ (kcell ck))),
    bigSep_congr (s := Finset.univ) (fun (c : Dev nD) _ => bigSep_sep' Finset.univ (fun k : Kind3 => (atPos ER (kcell (c, k)) 0 ∅ 0 : sProp 𝕄)) (fun k => reached ER (kcell (c, k)) 0)),
    bigSep_sep', ← bigSep_univ_prod (fun ck : Dev nD × Kind3 => (reached ER (kcell ck) 0 : sProp 𝕄))]
  iintro ⟨HI, ⟨Hat, #HR⟩, Htok⟩
  ihave HK := (BI.bigSep_exists_pi Finset.univ (fun (ck : Dev nD × Kind3) (κ : ℕ) => (cellInv ER (sched m ρ) κ (kcell ck) : sProp 𝕄))) $$ HI
  icases HK with ⟨%K, #HI⟩
  ihave Htk := (toks_dealt (F := F)) $$ Htok
  iapply (bigSep_with_persistent (R := records m ρ K) (Φ := fun c : Dev nD => linear (F := F) c) (Ψ := G' m ρ)
    fun c _ => show iprop(records m ρ K ∗ linear (F := F) c) ⊢ G' m ρ c by unfold G'; iintro H; iexists K; iexact H)
  isplitr
  · unfold records; isplitl; · iexact HI
    iexact HR
  · iapply ((Entails.of_eq (bigSep_sep' Finset.univ (fun c : Dev nD => bigSep Finset.univ fun k : Kind3 => (atPos ER (kcell (c, k)) 0 ∅ 0 : sProp 𝕄)) (fun c => payToks (F := F) c)).symm).trans
      (bigSep_mono fun c _ => show iprop((bigSep Finset.univ fun k : Kind3 => (atPos ER (kcell (c, k)) 0 ∅ 0 : sProp 𝕄)) ∗ payToks (F := F) c) ⊢ linear (F := F) c by
        unfold linear; rw [bigSep_kind]; iintro ⟨⟨H1, H2, H3⟩, H4⟩
        isplitl [H1]; · iexact H1
        isplitl [H2]; · iexact H2
        isplitl [H3] <;> iassumption))
    isplitl [Hat]; · iexact Hat
    iexact Htk

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- A sum of debts at a cell. -/
theorem sum_at {I : Type} [DecidableEq I] (S : Finset I) (f : I → CellTallies nD τ sig Unit) (g : GSem nD τ sig) (u : Unit) :
    (∑ d ∈ S, f d) g u = ∑ d ∈ S, f d g u := by
  induction S using Finset.induction_on with
  | empty => rfl
  | insert a S ha ih => rw [Finset.sum_insert ha, Finset.sum_insert ha, Pi.add_apply, Finsupp.add_apply, ih]

theorem bar_tally (q c : Dev nD) : tallyAt (barCell q) () 1 (barCell c) () = if q = c then 1 else 0 := by
  rw [tallyAt_apply]
  by_cases h : q = c
  · subst h; rw [if_pos ⟨rfl, rfl⟩, if_pos rfl]
  · rw [if_neg (fun h' => h (congrArg (fun g : GSem nD τ sig => g.1.1) h'.1).symm), if_neg h]
theorem recv_tally (q c : Dev nD) (d e : Fin 16) : tallyAt (recvCell q d) () N (recvCell c e) () = if q = c ∧ d = e then N else 0 := by
  rw [tallyAt_apply]
  by_cases h : q = c ∧ d = e
  · obtain ⟨rfl, rfl⟩ := h; rw [if_pos ⟨rfl, rfl⟩, if_pos ⟨rfl, rfl⟩]
  · rw [if_neg (fun h' => h ⟨(congrArg (fun g : GSem nD τ sig => g.1.1) h'.1).symm, (recv_inj (congrArg Prod.snd h'.1)).symm⟩), if_neg h]
theorem recv_bar_tally (q c : Dev nD) (d : Fin 16) : tallyAt (recvCell q d) () N (barCell c) () = 0 := by
  rw [tallyAt_ne_cell (fun h => recv_ne_bar d (congrArg Prod.snd h).symm)]; rfl
theorem bar_recv_tally (q c : Dev nD) (e : Fin 16) : tallyAt (barCell q) () 1 (recvCell c e) () = 0 := by
  rw [tallyAt_ne_cell (fun h => recv_ne_bar e (congrArg Prod.snd h))]; rfl

/-- One device stands at each distance before `c`. -/
theorem count_peer (c : Dev nD) (d : Fin 16) (n : ℕ) : (∑ q : Dev nD, if peer q d = c then n else 0) = n := by
  rw [Finset.sum_congr rfl (fun q _ => (if_congr (show peer q d = c ↔ q = prev c d from
    ⟨fun h => by rw [← h, prev_peer], fun h => by rw [h, peer_prev]⟩) rfl rfl)), Finset.sum_ite_eq' Finset.univ (prev c d), if_pos (Finset.mem_univ _)]

theorem owed_bar (c : Dev nD) : (∑ q : Dev nD, O₀ q (barCell c) ()) = 15 := by
  have h (q : Dev nD) : O₀ q (barCell c) () = ∑ d ∈ rem 1, if peer q d = c then 1 else 0 := by
    unfold O₀ oCopy oSig
    rw [Pi.add_apply, Finsupp.add_apply, sum_at, sum_at, Finset.sum_eq_zero (fun d _ => recv_bar_tally _ _ _), zero_add]
    exact Finset.sum_congr rfl fun d _ => bar_tally _ _
  rw [Finset.sum_congr rfl fun q _ => h q, Finset.sum_comm, Finset.sum_congr rfl fun d _ => count_peer c d 1, Finset.sum_const, card_rem_one]; rfl

theorem owed_recv (c : Dev nD) (e : Fin 16) (he : e ∈ rem 1) : (∑ q : Dev nD, O₀ q (recvCell c e) ()) = N := by
  have h (q : Dev nD) : O₀ q (recvCell c e) () = if peer q e = c then N else 0 := by
    unfold O₀ oCopy oSig
    rw [Pi.add_apply, Finsupp.add_apply, sum_at, sum_at, Finset.sum_eq_zero (s := rem 1) (f := fun d => tallyAt (barCell (peer q d)) () 1 (recvCell c e) ()) (fun d _ => bar_recv_tally _ _ _),
      add_zero, Finset.sum_eq_single e (fun d _ hd => by rw [recv_tally, if_neg (fun h => hd h.2)]) (fun h => absurd he h), recv_tally]
    exact if_congr (and_iff_left rfl) rfl rfl
  rw [Finset.sum_congr rfl fun q _ => h q, count_peer]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, owed_bar]
theorem launch_recv (c : Dev nD) (e : Fin 16) (he : e ∈ rem 1) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, owed_recv c e he]

/-- The arrival semaphores by distance. -/
def recvEmb : Fin 16 ↪ SemLoc sig := ⟨fun d => .dma (recvS d.val d.isLt), fun _ _ h => recv_inj h⟩

/-- The credits device `c` gets: fifteen units on its barrier, a block's on each arrival cell from distance 1. -/
theorem creds (c : Dev nD) :
    (Pipeline.launchCred O₀ c : sProp 𝕄) ⊢ iprop(cred (tallyAt (barCell c) () 15) ∗ bigSep (rem 1) (fun d => cred (tallyAt (recvCell c d) () N))) := by
  unfold Pipeline.launchCred
  rw [bigSep_univ_at _ (SemLoc.reg barS), launch_bar]
  refine sep_mono_right ?_
  refine (bigSep_subset (t := (rem 1).map recvEmb) fun s hs => ?_).trans ?_
  · obtain ⟨d, -, rfl⟩ := Finset.mem_map.1 hs
    exact Finset.mem_erase.mpr ⟨recv_ne_bar d, Finset.mem_univ _⟩
  · rw [bigSep_map]
    exact Entails.of_eq (bigSep_congr fun d hd => by rw [← launch_recv c d hd]; rfl)

/-! ## The region's ends -/

/-- What bypasses the region on device `c`: the array no window stages, as launched. -/
abbrev bypass (c : Dev nD) : sProp 𝕄 := iprop(((c : Thread nD τ).loc main_arg1) ↦{fullShare} m ((c : Thread nD τ).loc main_arg1))

/-- It is read in the final memory. -/
theorem bypass_read (c : Dev nD) (s' : Phys nD τ sig (Elt F)) :
    (iprop(bypass m c ∗ SI s') : sProp 𝕄) ⊢ iprop(⌜s'.mem.mem ((c : Thread nD τ).loc main_arg1) = m ((c : Thread nD τ).loc main_arg1)⌝ ∗ SI s') := by
  have h := pointsTo_read_all (Ix := Unit) (Name := ℕ) (U := UU) (Lvl := ℕ) ({main_arg1} : Finset (Ref sig .tc)) (fun b => (c : Thread nD τ).loc b) (fun b => m ((c : Thread nD τ).loc b)) s'
  rw [bigSep_singleton] at h
  refine h.trans ?_
  iintro ⟨%hm, HSI⟩
  isplitr; · ipureintro; exact hm main_arg1 (Finset.mem_singleton_self _)
  iexact HSI

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ bypass m c) := by
  rw [Pipeline.unscopedRestP_none, unscopedRest0_eq]
  iintro ⟨Hby, Hlev, Hcr, -, HG⟩
  ihave Hc := (creds (F := F) c) $$ Hcr
  icases Hc with ⟨H1, HN⟩
  imodintro
  unfold start G'
  isplitr [Hby]
  · isplitl [HG]; · iexact HG
    isplitl [H1]; · iexact H1
    isplitl [HN]; · iexact HN
    iexact Hlev
  · iexact Hby

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁
  iintro ⟨H0, H1, HzS, HzV, HzB⟩
  isplitl [HzB]; · iexact HzB
  isplitl [HzS HzV]
  · isplitl [HzS] <;> iassumption
  isplitl [H0] <;> iassumption

theorem stage_lt (w : Fin cfg0.W) (s : Fin (cfg0.spec w).nbuf) : ((cfg0.spec w).sem s).val < 4 := by revert s; revert w; decide
theorem stage_ne_recv (w : Fin cfg0.W) (s : Fin (cfg0.spec w).nbuf) (d : Fin 16) :
    SemLoc.dma ((cfg0.spec w).sem s) ≠ .dma (recvS d.val d.isLt) := fun h => by
  have h := congrArg Fin.val (SemLoc.dma.inj h)
  rw [recvS_val] at h
  have := stage_lt w s
  omega

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_ne_recv w s) _ (by
      rcases t with ⟨_ | _, ht⟩
      · exact Or.inl rfl
      · exact Or.inr rfl)

/-! ## The run -/

/-- Device `c`'s array of window `w` at the end. -/
def finalA (c : Dev nD) (w : Fin cfg0.W) : Buf (Elt F) ((cfg0.win w).arr.view.loc (c : Thread nD τ)) := (dats m ρ 0 c).arrAt w cfg0.N

/-- What every final state holds. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- From any memory with every counter at zero, for any float values: every weakly fair execution of the sixteen devices ends,
    with each window's array at its final contents, the array no window stages unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun c => bypass m c)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hby, HSI⟩
      ihave H := (bypass_read m c s') $$ [Hby HSI]
      · isplitl [Hby] <;> iassumption
      icases H with ⟨%hm, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hm⟩
      iexact HSI)
    (hQ := fun _ h hs => ⟨fun c => ⟨fun w => (h c).1 w, (h c).2.2.2⟩, sem_eq_zero hs fun c => (h c).2.2.1⟩)

end Cert.Exchange
-- ==== Proof.Frames.lean ====
/-
# What the runs leave: the arguments, the result, the counters

The launch's theorem names the final contents of the arrays the kernel's windows stand on. The three argument windows are only read,
so their arrays end as they began; the result window is one block, the whole array, so the result array ends holding the sum the body
left in its staging buffer. The three frame claims follow.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Exchange

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## The arrays of the windows -/

/-- The token array ends as it began. -/
theorem finalA_x (c : Dev nD) : finalA m ρ c (0 : Fin 4) = m ((c : Thread nD τ).loc main_arg0) :=
  (dats (F := F) m ρ 0 c).arrAt_in (0 : Fin 4) rfl _

/-- The array of expert numbers ends as it began. -/
theorem finalA_i (c : Dev nD) : finalA m ρ c (1 : Fin 4) = m ((c : Thread nD τ).loc main_arg2) :=
  (dats (F := F) m ρ 0 c).arrAt_in (1 : Fin 4) rfl _

/-- The weight array ends as it began. -/
theorem finalA_w (c : Dev nD) : finalA m ρ c (2 : Fin 4) = m ((c : Thread nD τ).loc main_arg3) :=
  (dats (F := F) m ρ 0 c).arrAt_in (2 : Fin 4) rfl _

/-- Reading the token window reads the whole array. -/
theorem xAt_eq (c : Dev nD) : xAt m ρ c = m ((c : Thread nD τ).loc main_arg0) :=
  Memref.read_access_unit_zero (Elt F) main_arg0 (off := fun a => win0_0.index t0_0 a * main_arg0.ty.shape.size a)
    (funext fun a => by fin_cases a <;> decide) (fun a => by fin_cases a <;> decide) _

/-- Reading the window of expert numbers reads the whole array. -/
theorem iAt_eq (c : Dev nD) : iAt m ρ c = m ((c : Thread nD τ).loc main_arg2) :=
  Memref.read_access_unit_zero (Elt F) main_arg2 (off := fun a => win0_1.index t0_0 a * main_arg2.ty.shape.size a)
    (funext fun a => by fin_cases a <;> decide) (fun a => by fin_cases a <;> decide) _

/-- Reading the weight window reads the whole array. -/
theorem wAt_eq (c : Dev nD) : wAt m ρ c = m ((c : Thread nD τ).loc main_arg3) :=
  Memref.read_access_unit_zero (Elt F) main_arg3 (off := fun a => win0_2.index t0_0 a * main_arg3.ty.shape.size a)
    (funext fun a => by fin_cases a <;> decide) (fun a => by fin_cases a <;> decide) _

/-- The result array ends holding the body's sum: its window's one block is the whole array, written back once. -/
theorem finalA_o (c : Dev nD) : finalA m ρ c (3 : Fin 4) = outAt m ρ c := by
  have h : (win0_3.blk t0_0).view.read (Elt F) (finalA m ρ c (3 : Fin 4)) = outAt m ρ c := by
    unfold finalA
    rw [show cfg0.N = (t0_0 : Fin cfg0.N).val + 1 from rfl, (dats m ρ 0 c).arrAt_succ (3 : Fin 4) t0_0,
      show (cfg0.win (3 : Fin 4)).flush t0_0 = true from by decide, if_pos rfl]
    exact View.read_write_univ _ _
  rw [← h]
  exact (Memref.read_access_unit_zero (Elt F) main_v1 (off := fun a => win0_3.index t0_0 a * main_v1.ty.shape.size a)
    (funext fun a => by fin_cases a <;> decide) (fun a => by fin_cases a <;> decide) _).symm

/-- Every final state of the kernel: on each device the result array at the body's sum, the four arguments unchanged, and every
    counter of the machine at zero. -/
theorem run_read : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c =>
    ⟨((h.1 c).1 (3 : Fin 4)).trans (finalA_o m ρ c), ((h.1 c).1 (0 : Fin 4)).trans (finalA_x m ρ c), (h.1 c).2,
      ((h.1 c).1 (1 : Fin 4)).trans (finalA_i m ρ c), ((h.1 c).1 (2 : Fin 4)).trans (finalA_w m ρ c)⟩, h.2⟩) (run_main m ρ)

/-! ## The frames -/

/-- The kernel's text is printed twice, once for each reading of the floats: the two body tables are the same table. -/
theorem bodies_eq : Cert.Kernel.defs₀ (F := F) = Cert.KernelIdeal.defs₀ (F := F) := by
  unfold Cert.Kernel.defs₀ Cert.KernelIdeal.defs₀
  refine congrArg Defs.onTc ?_
  funext ℓ a
  match ℓ, a with
  | 0, (t, s) => rfl

/-- So are the tables of the whole program. -/
theorem tables_eq : Cert.Kernel.defs (F := F) = Cert.KernelIdeal.defs (F := F) := by
  unfold Cert.Kernel.defs Cert.KernelIdeal.defs
  rw [bodies_eq]; rfl

/-- The kernel at the machine's floats runs to the end, its arguments unchanged and every counter back at zero. -/
theorem frame_kernel : Cert.quiescent_Kernel := by
  intro m ρ _
  rw [tables_eq]
  exact (θ_run Cert.KernelIdeal.defs _ _).mono (fun _ h => ⟨fun c => (h.1 c).2, h.2⟩) (run_read (F := Bits) m ρ)

/-- So does the kernel at the extended reals. -/
theorem frame_ideal : Cert.quiescent_KernelIdeal := fun m ρ _ =>
  (θ_run Cert.KernelIdeal.defs _ _).mono (fun _ h => ⟨fun c => (h.1 c).2, h.2⟩) (run_read (F := Ideal) m ρ)

/-- The reference runs to the end with its arguments unchanged; it declares no semaphore, so every counter is zero. -/
theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

end Cert.Exchange

end
-- ==== Proof.Total.lean ====
/-
# The kernel's result is a sum over the devices

Device `c` adds the sixteen slots of its receiving buffer. Slot `d` holds the rows of `c`'s block of the partial sum of the device
`d` places before it, and those devices are all the devices, each once. So over the extended reals the result's row `r` on device
`c` is the sum over all devices of row `32 c + r` of their partial sums.
-/
module

public import proofs.«01_k».proof.Proof.Body
public import Idealize.ShloMosaic.Lib.Pointwise

@[expose] public section

set_option maxRecDepth 16384

noncomputable section

namespace Cert.Exchange

open Cert.KernelIdeal Cert.KernelIdeal.Gen

open Idealize.ShloMosaic
open Idealize.ShloMosaic.TcCoe

/-- Row `r` of device `c`'s block among all 512 rows. -/
def rowOf (c : Fin 16) (r : Fin 32) : Fin 512 := ⟨32 * c.val + r.val, by omega⟩

section
variable {F : FTy → Type} [FloatOps F]
variable (m : (ℓ : Loc nD τ sig) → Buf (Elt F) ℓ) (ρ : Dev nD → PrngReg)

/-- What the kernel loads from slot `d`: the rows of its block from the device `d` places before. -/
theorem got_apply (c : Dev nD) (d : Fin 16) (r : Fin 32) (o : Fin 512) :
    got m ρ c d (ix3 (0 : Fin 1) r o) = part m ρ (prev c d) (ix2 (rowOf c r) o) := by
  show landed m ρ c ((slotR d.val d.isLt).emb (ix3 (0 : Fin 1) r o)) = _
  have hd : (slotR d.val d.isLt).emb (ix3 (0 : Fin 1) r o) 0 = d := Fin.ext (by
    show d.val + 1 * 0 = d.val; omega)
  show part m ρ (prev c ((slotR d.val d.isLt).emb (ix3 (0 : Fin 1) r o) 0)) (landRow c _) = _
  rw [hd]
  refine congrArg (part m ρ (prev c d)) (funext fun a => Fin.ext ?_)
  match a with
  | ⟨0, _⟩ => show 32 * c.val + (0 + 1 * r.val) = 32 * c.val + r.val; omega
  | ⟨1, _⟩ => show 0 + 1 * o.val = o.val; omega

end

/-- The device at each distance before `c`. -/
def behind (c : Dev nD) : Fin 16 ≃ Dev nD := turn.trans (around c)

theorem behind_apply (c : Dev nD) (d : Fin 16) : behind c d = prev c d := peer_opp c d

variable (m : (ℓ : Loc nD τ sig) → Buf (Elt Ideal) ℓ) (ρ : Dev nD → PrngReg)

/-- The result on device `c` at row `r` and column `o`: the devices' partial sums at row `32 c + r`, added up. -/
theorem outAt_apply (c : Dev nD) (r : Fin 32) (o : Fin 512) :
    outAt m ρ c (ix2 r o) = ∑ p : Dev nD, (part m ρ p (ix2 (rowOf c r) o) : EReal) := by
  have h : outAt m ρ c (ix2 r o) = ∑ d : Fin 16, (got m ρ c d (ix3 (0 : Fin 1) r o) : EReal) := by
    pointwise [outAt, k0_pay5, k0_pay6, k0_pay7, k0_pay8, k0_pay9, k0_pay10]
    simp only [Fin.sum_univ_castSucc, Fin.sum_univ_zero, zero_add]
    rfl
  rw [h, ← Equiv.sum_comp (behind c) fun p : Dev nD => (part m ρ p (ix2 (rowOf c r) o) : EReal)]
  exact Finset.sum_congr rfl fun d _ => by rw [behind_apply, got_apply]

end Cert.Exchange

end
-- ==== Proof.Rule.lean ====
/-
# The rule by which a row is served

Row `n` carries the number of an expert. The rows with one expert's number are counted from the top, and the first twelve of them
are served. This module states that rule in plain numbers and the output it gives; both programs are compared with it.
-/
module

public import Idealize.ShloMosaic.Lib.Pointwise
public import Idealize.ShloMosaic.PureOps.Ideal

@[expose] public section

set_option maxRecDepth 16384

noncomputable section

namespace Cert.Exchange

open Idealize.ShloMosaic

/-- A column of 512 expert numbers, one 32-bit word per row. -/
abbrev Numbers := (⟨2, ![512, 1]⟩ : Shape).Idx → BitVec 32

/-- Row `n` carries the number of expert `e`. -/
def Goes (idx : Numbers) (n : Fin 512) (e : Fin 32) : Prop := idx (ix2 n (0 : Fin 1)) = BitVec.ofNat 32 e.val

instance (idx : Numbers) (n : Fin 512) (e : Fin 32) : Decidable (Goes idx n e) := inferInstanceAs (Decidable (_ = _))

/-- How many rows above row `n` carry the number of expert `e`. -/
def earlier (idx : Numbers) (n : Fin 512) (e : Fin 32) : ℕ := (Finset.univ.filter fun j : Fin 512 => j < n ∧ Goes idx j e).card

/-- Expert `e` serves row `n`: the row carries its number, and fewer than twelve rows above do. -/
def Kept (idx : Numbers) (n : Fin 512) (e : Fin 32) : Prop := Goes idx n e ∧ earlier idx n e < 12

instance (idx : Numbers) (n : Fin 512) (e : Fin 32) : Decidable (Kept idx n e) := inferInstanceAs (Decidable (_ ∧ _))

/-- Two small numbers are equal when their words are. -/
theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- A row carries at most one expert's number. -/
theorem Goes.unique {idx : Numbers} {n : Fin 512} {e e' : Fin 32} (h : Goes idx n e) (h' : Goes idx n e') : e = e' :=
  Fin.ext (ofNat_inj (by omega) (by omega) (h.symm.trans h'))

/-- The output of the rule: row `n` is its product with the matrix of the expert that serves it, and zero when none does. -/
def served (idx : Numbers) (n : Fin 512) (f : Fin 32 → EReal) : EReal := ∑ e : Fin 32, if Kept idx n e then f e else 0

/-- The product of row `n` with column `o` of expert `e`'s matrix, among `E` experts. -/
def product {E : ℕ} (x : (⟨2, ![512, 256]⟩ : Shape).Idx → EReal) (w : (⟨3, ![E, 256, 512]⟩ : Shape).Idx → EReal)
    (n : Fin 512) (e : Fin E) (o : Fin 512) : EReal := ∑ i : Fin 256, x (ix2 n i) * w (ix3 e i o)

/-- A row served by expert `e` gets that expert's product alone. -/
theorem served_of_kept {idx : Numbers} {n : Fin 512} {e : Fin 32} (h : Kept idx n e) (f : Fin 32 → EReal) : served idx n f = f e := by
  rw [served, Finset.sum_eq_single e, if_pos h]
  · intro e' _ hne
    exact if_neg fun h' => hne (h'.1.unique h.1)
  · exact fun h => absurd (Finset.mem_univ e) h

/-- A row that no expert serves is zero. -/
theorem served_of_none {idx : Numbers} {n : Fin 512} (h : ¬ ∃ e, Kept idx n e) (f : Fin 32 → EReal) : served idx n f = 0 :=
  Finset.sum_eq_zero fun e _ => if_neg fun k => h ⟨e, k⟩

/-- The bit of a truth value is 1 exactly when it is true. -/
theorem ofBool_eq_one (p : Bool) : BitVec.ofBool p = 1#1 ↔ p = true := by cases p <;> decide

/-- A small number's word, read signed, is the number. -/
theorem toInt_small {a : ℕ} (h : a < 2 ^ 31) : (BitVec.ofNat 32 a).toInt = a := by
  rw [BitVec.toInt_eq_toNat_of_lt (by rw [BitVec.toNat_ofNat]; omega), BitVec.toNat_ofNat, Nat.mod_eq_of_lt (by omega)]

/-- A comparison for equality gives 1 exactly on equal words. -/
theorem cmpi_eq_one {w : ℕ} (a b : BitVec w) : IntOp.cmpi .eq a b = 1#1 ↔ a = b := by
  show BitVec.ofBool (a == b) = 1#1 ↔ a = b
  rw [ofBool_eq_one, beq_iff_eq]

/-- A conjunction of bits is 1 exactly when both are. -/
theorem andi_eq_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- A signed comparison of two small numbers compares the numbers. -/
theorem sgt_ofNat (a b : Fin 512) : IntOp.cmpi .sgt (BitVec.ofNat 32 a.val) (BitVec.ofNat 32 b.val) = 1#1 ↔ b < a := by
  show BitVec.ofBool ((BitVec.ofNat 32 b.val).slt (BitVec.ofNat 32 a.val)) = 1#1 ↔ _
  rw [ofBool_eq_one, BitVec.slt_iff_toInt_lt, toInt_small (by omega), toInt_small (by omega), Fin.lt_def]
  omega

/-- A bit widened and converted is the real number 0 or 1. -/
theorem real_of_bit (b : BitVec 1) : (FloatOps.sitofp (F := Ideal) FTy.f32 (BitVec.setWidth 32 b) : EReal) = if b = 1#1 then 1 else 0 := by
  rcases BitVec.eq_zero_or_eq_one b with rfl | rfl
  · show (((BitVec.setWidth 32 0#1).toInt : ℝ) : EReal) = _
    simp
  · show (((BitVec.setWidth 32 1#1).toInt : ℝ) : EReal) = _
    simp

/-- The constant the kernel compares with is twelve. -/
theorem twelve : Ideal.ofBits FTy.f32 1094713344#32 = ((12 : ℝ) : EReal) := by
  simp [Ideal.ofBits, Ideal.ieee, -EReal.coe_mul]; norm_num

/-- A sum of zeros and ones counts. -/
theorem sum_bits {n : ℕ} (p : Fin n → Prop) [DecidablePred p] :
    (∑ j : Fin n, if p j then (1 : EReal) else 0) = (((Finset.univ.filter p).card : ℝ) : EReal) := by
  rw [Finset.sum_boole]
  exact (EReal.coe_natCast (n := _)).symm

end Cert.Exchange

end
-- ==== Proof.Choice.lean ====
/-
# One device's partial sum

Each device finds for every row and expert whether the expert serves the row, by counting with a product of 0/1 matrices. With that
choice it masks the rows of its two experts and multiplies them. Over the extended reals its partial sum at row `n` is the
product for its first expert if that one serves the row, plus the product for its second if that one does.
-/
module

public import proofs.«01_k».proof.Proof.Total
public import proofs.«01_k».proof.Proof.Rule

@[expose] public section

set_option maxRecDepth 16384

noncomputable section

namespace Cert.Exchange

open Cert.KernelIdeal Cert.KernelIdeal.Gen

open Idealize.ShloMosaic
open Idealize.ShloMosaic.TcCoe

/-- The kernel's choice is the rule. -/
theorem keep_apply (idx : IVec S512x1 32) (n : Fin 512) (e : Fin 32) :
    k0_pay1 (F := Ideal) idx (ix2 n e) = 1#1 ↔ Kept idx n e := by
  pointwise [k0_pay1]
  rw [andi_eq_one, cmpi_eq_one, ofBool_eq_one, decide_eq_true_iff]
  refine and_congr Iff.rfl ?_
  rw [show (earlier idx n e < 12) ↔ ((((Finset.univ.filter fun j : Fin 512 => j < n ∧ Goes idx j e).card : ℝ) : EReal) < ((12 : ℝ) : EReal)) by
    rw [EReal.coe_lt_coe_iff, earlier]; norm_cast, ← sum_bits, twelve]
  rw [Finset.sum_congr rfl fun j _ => ?_]
  rw [real_of_bit, real_of_bit, ite_mul, one_mul, zero_mul, ite_and]
  simp only [sgt_ofNat, cmpi_eq_one]
  rfl

/-- The sum over the experts that masks a row for expert `e` is 1 if the expert serves the row, and 0 if not. -/
theorem mask_sum (keep : Fin 32 → BitVec 1) (e : Fin 32) (w : BitVec 32) (hw : w = BitVec.ofNat 32 e.val) :
    (∑ j : Fin 32, Scalar.select (IntOp.andi (keep j) (IntOp.cmpi .eq (BitVec.ofNat 32 j.val) w)) (1 : EReal) 0)
      = if keep e = 1#1 then 1 else 0 := by
  subst hw
  rw [Finset.sum_eq_single e]
  · show (if IntOp.andi _ _ = 1#1 then _ else _) = _
    exact if_congr (by rw [andi_eq_one, cmpi_eq_one]; exact and_iff_left rfl) rfl rfl
  · intro j _ hj
    show (if IntOp.andi _ _ = 1#1 then _ else _) = _
    rw [if_neg]
    rw [andi_eq_one, cmpi_eq_one]
    exact fun h => hj (Fin.ext (ofNat_inj (by omega) (by omega) h.2))
  · exact fun h => absurd (Finset.mem_univ e) h

/-- A masked row times a column: the product if the mask is 1, and zero if it is 0. -/
theorem masked_product (p : Prop) [Decidable p] (x w : Fin 256 → EReal) :
    (∑ i : Fin 256, x i * (if p then 1 else 0) * w i) = if p then ∑ i : Fin 256, x i * w i else 0 := by
  by_cases h : p
  · simp only [if_pos h, mul_one]
  · simp only [if_neg h, mul_zero, zero_mul, Finset.sum_const_zero]

/-- Expert `k` of device `p` among all the experts. -/
def expertOf (p : Fin 16) (k : Fin 2) : Fin 32 := ⟨2 * p.val + k.val, by omega⟩

/-- The kernel's number for device `p`'s pair of experts is `p`. -/
theorem half_eq (p : Dev nD) : half p = BitVec.ofNat 32 p.val := by revert p; decide

/-- The word with which the kernel compares for its first expert. -/
theorem word_first (p : Dev nD) : Scalar.addi (Scalar.muli (half p) 2#32) 0#32 = BitVec.ofNat 32 (expertOf p 0).val := by revert p; decide

/-- The word with which the kernel compares for its second expert. -/
theorem word_second (p : Dev nD) : Scalar.addi (Scalar.muli (half p) 2#32) 1#32 = BitVec.ofNat 32 (expertOf p 1).val := by revert p; decide

/-- What the kernel loads of its weights for its expert `k`. -/
theorem wSlice_apply (k : Fin 2) (he : ∀ a, (![k.val, 0, 0] : Fin 3 → ℕ) a + S1x256x512.size a ≤ S2x256x512.size a)
    (w : (cc0_stg2_0 : Ref sig .tc).ty.Contents (Elt Ideal)) (i : Fin 256) (o : Fin 512) :
    wSlice k.val he w (ix3 (0 : Fin 1) i o) = w (ix3 k i o) := by
  refine congrArg w (funext fun a => Fin.ext ?_)
  match a with
  | ⟨0, _⟩ => show k.val + 1 * 0 = k.val; omega
  | ⟨1, _⟩ => show 0 + 1 * i.val = i.val; omega
  | ⟨2, _⟩ => show 0 + 1 * o.val = o.val; omega

/-- The sum of the two masked products. -/
theorem acc_apply (p : Dev nD) (keep : IVec S512x32 1) (x : Vec Ideal S512x256 .bf16) (w0 w1 : Vec Ideal S1x256x512 .bf16) (n o : Fin 512) :
    k0_pay2 (F := Ideal) (half p) (iota .tc S512x32 32 [1] iota_S512x32_d1_w32) keep x w0 w1 (ix2 n o)
      = (if keep (ix2 n (expertOf p 0)) = 1#1 then ∑ i : Fin 256, (x (ix2 n i) * w0 (ix3 (0 : Fin 1) i o) : EReal) else 0)
        + (if keep (ix2 n (expertOf p 1)) = 1#1 then ∑ i : Fin 256, (x (ix2 n i) * w1 (ix3 (0 : Fin 1) i o) : EReal) else 0) := by
  rw [← masked_product, ← masked_product, ← mask_sum (fun e => keep (ix2 n e)) _ _ (word_first p),
    ← mask_sum (fun e => keep (ix2 n e)) _ _ (word_second p)]
  pointwise [k0_pay2]

variable (m : (ℓ : Loc nD τ sig) → Buf (Elt Ideal) ℓ) (ρ : Dev nD → PrngReg)

/-- Device `p`'s partial sum at row `n` and column `o`: the products for those of its two experts that serve the row. -/
theorem part_apply (p : Dev nD) (n o : Fin 512) :
    part m ρ p (ix2 n o) = ∑ k : Fin 2, if Kept (iAt m ρ p) n (expertOf p k)
      then product (xAt m ρ p) (wAt m ρ p) n k o else 0 := by
  have h : part m ρ p (ix2 n o) = k0_pay2 (F := Ideal) (half p) (iota .tc S512x32 32 [1] iota_S512x32_d1_w32) (k0_pay1 (iAt m ρ p)) (xAt m ρ p)
    (wSlice 0 inb_S2x256x512_S1x256x512_0_0_0 (wAt m ρ p)) (wSlice 1 inb_S2x256x512_S1x256x512_1_0_0 (wAt m ρ p)) (ix2 n o) := by
    show k0_pay3 _ _ = _
    pointwise [k0_pay3]
  rw [h, acc_apply, Fin.sum_univ_two]
  refine congrArg₂ _ (if_congr (keep_apply _ _ _) (Finset.sum_congr rfl fun i _ => ?_) rfl)
    (if_congr (keep_apply _ _ _) (Finset.sum_congr rfl fun i _ => ?_) rfl)
  · exact congrArg _ (wSlice_apply 0 inb_S2x256x512_S1x256x512_0_0_0 (wAt m ρ p) i o)
  · exact congrArg _ (wSlice_apply 1 inb_S2x256x512_S1x256x512_1_0_0 (wAt m ρ p) i o)

end Cert.Exchange

end
-- ==== Proof.Lookup.lean ====
/-
# The reference's result

The reference marks each row with its expert, counts down the rows with a running sum, keeps the marks whose count is at most twelve,
looks up the matrix of each row's expert, multiplies, and keeps the rows that have a mark left. That is the rule.
-/
module

public import proofs.«01_k».proof.Proof.Rule
public import proofs.«01_k».proof.Proof.Gen.ReferenceIdeal.Run
public import Idealize.ShloMosaic.Lib.Pointwise
public import Idealize.ShloMosaic.Lib.Routing.OpsOne
public import Idealize.ShloMosaic.Lib.Routing.OpsOrder

@[expose] public section

set_option maxRecDepth 16384

noncomputable section

namespace Cert.Exchange.Lookup

open Cert.ReferenceIdeal Cert.ReferenceIdeal.Gen

open Idealize.ShloMosaic
open Idealize.ShloMosaic.TcCoe

/-- The marks: for each row and expert, whether the row carries the expert's number. -/
def marks (idx : IVec S512x1 32) : IVec S512x32 1 :=
  cmpi .eq (broadcastInDim S512x32 ![0, 1] bcast_S512x1_S512x32_0_1 (broadcastInDim S512x1 ![0] bcast_S512_S512x1_0
    (shapeCast S512 idx shapeCasts_S512x1_S512))) (broadcastInDim S512x32 ![0, 1] bcast_S1x32_S512x32_0_1
    (broadcastInDim S1x32 ![1] bcast_S32_S1x32_1 (iotaInDim S32 32 0)))

/-- The running counts of the marks, down the rows. -/
def counts (idx : IVec S512x1 32) : IVec S512x32 32 :=
  Host.reduceWindow IntOp.addi ![512, 1] ![1, 1] ![511, 0] ![0, 0] (extui 32 (marks idx) natLt_1_32)
    (broadcastInDim S_ ![] bcast_S_S_ (constantI S_ 32 0#32)) reduceWindows_S512x32_S512x32_w512s1p511_0_w1s1p0_0 h_S_

/-- Whether each row has a mark left. -/
def left (idx : IVec S512x1 32) : IVec S512 1 :=
  Host.reduce IntOp.ori (andi (marks idx) (cmpi .sle (counts idx) (broadcastInDim S512x32 ![] bcast_S_S512x32 (constantI S_ 32 12#32))))
    (constantI S_ 1 0#1) reducesTo_S512x32_S512_d1 h_S_

/-- The row of the table that each row looks up, a negative number counted from the end. -/
def place (idx : IVec S512x1 32) : IVec S512x1 32 :=
  broadcastInDim S512x1 ![0] bcast_S512_S512x1_0 (select (cmpi .slt (shapeCast S512 idx shapeCasts_S512x1_S512)
    (broadcastInDim S512 ![] bcast_S_S512 (constantI S_ 32 0#32))) (addi (shapeCast S512 idx shapeCasts_S512x1_S512)
    (broadcastInDim S512 ![] bcast_S_S512 (constantI S_ 32 32#32))) (shapeCast S512 idx shapeCasts_S512x1_S512))

/-- The reference's result. -/
def result (x : Vec Ideal S512x256 .bf16) (idx : IVec S512x1 32) (w : Vec Ideal S32x256x512 .bf16) : FVec Ideal S512x512 .f32 :=
  select (broadcastInDim S512x512 ![0, 1] bcast_S512x1_S512x512_0_1 (broadcastInDim S512x1 ![0] bcast_S512_S512x1_0 (left idx)))
    (Host.dotGeneral dot_S512x256_S512x256x512_S512x512_1_1_n_2_0_0 none (extf .f32 x bitsLt_bf16_f32)
      (Host.gather gather_S32x256x512_S512x1_S512x256x512_12_0_n_n_0_1_1256512 (extf .f32 w bitsLt_bf16_f32) (place idx)))
    (broadcastInDim S512x512 ![] bcast_S_S512x512 (id (constant S_ .f32 0x00000000#32)))

/-- A mark is set exactly where the row carries the expert's number. -/
theorem marks_apply (idx : IVec S512x1 32) (n : Fin 512) (e : Fin 32) : marks idx (ix2 n e) = 1#1 ↔ Goes idx n e := by
  pointwise [marks]
  rw [cmpi_eq_one]
  rfl

/-- A widened mark is the word 1 where the row carries the expert's number, and 0 elsewhere. -/
theorem wide_marks_apply (idx : IVec S512x1 32) (n : Fin 512) (e : Fin 32) :
    extui 32 (marks idx) natLt_1_32 (ix2 n e) = if Goes idx n e then 1 else 0 := by
  have h := marks_apply idx n e
  show BitVec.setWidth 32 (marks idx (ix2 n e)) = _
  rcases BitVec.eq_zero_or_eq_one (marks idx (ix2 n e)) with hb | hb
  · rw [hb, if_neg (fun g => absurd (hb.symm.trans (h.2 g)) (by decide))]; rfl
  · rw [hb, if_pos (h.1 hb)]; rfl

/-- The running count at a marked row is one more than the number of marks above it. -/
theorem counts_apply (idx : IVec S512x1 32) (n : Fin 512) (e : Fin 32) (h : Goes idx n e) :
    counts idx (ix2 n e) = BitVec.ofNat 32 (earlier idx n e + 1) := by
  unfold counts
  rw [ix2_eq_valueIdx, Routing.cumsum_rows_sum (by norm_num) _ _ (by rfl), Finset.sum_congr rfl fun j _ => by
    rw [← ix2_eq_valueIdx, wide_marks_apply, ← ite_and], Finset.sum_boole]
  have hs : (Finset.univ.filter fun j : Fin 512 => j ≤ n ∧ Goes idx j e)
      = insert n (Finset.univ.filter fun j : Fin 512 => j < n ∧ Goes idx j e) := by
    ext j
    simp only [Finset.mem_filter, Finset.mem_univ, true_and, Finset.mem_insert]
    refine ⟨fun q => (eq_or_lt_of_le q.1).imp id fun l => ⟨l, q.2⟩, fun q => ?_⟩
    rcases q with rfl | q
    · exact ⟨le_rfl, h⟩
    · exact ⟨q.1.le, q.2⟩
  rw [hs, Finset.card_insert_of_notMem fun q => lt_irrefl n (Finset.mem_filter.1 q).2.1]
  rfl

/-- A row has a mark left exactly when an expert serves it. -/
theorem left_apply (idx : IVec S512x1 32) (n : Fin 512) : left idx (ix1 n) = 1#1 ↔ ∃ e, Kept idx n e := by
  pointwise [left]
  rw [Routing.fold_ori]
  refine exists_congr fun e => ?_
  rw [andi_eq_one, marks_apply, and_iff_right (Finset.mem_univ e)]
  refine and_congr_right fun h => ?_
  have hc : earlier idx n e ≤ 512 := (Finset.card_le_univ _).trans (by simp)
  rw [counts_apply idx n e h]
  show BitVec.ofBool ((BitVec.ofNat 32 (earlier idx n e + 1)).sle (BitVec.ofNat 32 12)) = 1#1 ↔ _
  rw [ofBool_eq_one, BitVec.sle_iff_toInt_le, toInt_small (by omega), toInt_small (by omega)]
  omega

/-- A row that carries the number of an expert looks up that expert's matrix. -/
theorem place_apply (idx : IVec S512x1 32) (n : Fin 512) (e : Fin 32) (h : Goes idx n e) :
    place idx (ix2 n (0 : Fin 1)) = BitVec.ofNat 32 e.val := by
  pointwise [place]
  rw [show idx (ix2 n 0) = BitVec.ofNat 32 e.val from h]
  clear h
  revert e
  decide

/-- Looking a row's matrix up by a small number gives the matrix of that number. -/
theorem gather_apply (w : FVec Ideal S32x256x512 .f32) (at' : IVec S512x1 32) (n : Fin 512) (i : Fin 256) (o : Fin 512) (e : Fin 32)
    (h : at' (ix2 n (0 : Fin 1)) = BitVec.ofNat 32 e.val) :
    Host.gather gather_S32x256x512_S512x1_S512x256x512_12_0_n_n_0_1_1256512 w at' (ix3 n i o) = w (ix3 e i o) := by
  unfold Host.gather
  refine congrArg w (funext fun a => Fin.ext ?_)
  match a with
  | ⟨0, _⟩ =>
    have hp : ∀ j : S512x1.Idx, (j 0).val = n.val → at' j = BitVec.ofNat 32 e.val := fun j hj => by
      rw [← h]
      refine congrArg at' (funext fun b => Fin.ext ?_)
      match b with
      | ⟨0, _⟩ => exact hj
      | ⟨1, _⟩ => have : (j 1).val < 1 := (j 1).isLt; show (j 1).val = 0; omega
    show min ((at' _).toInt.toNat) 31 + 0 + 0 = e.val
    rw [hp _ rfl, toInt_small (by omega)]
    omega
  | ⟨1, _⟩ => show 0 + 0 + i.val = i.val; omega
  | ⟨2, _⟩ => show 0 + 0 + o.val = o.val; omega

/-- The reference's result is the rule's. -/
theorem result_apply (x : Vec Ideal S512x256 .bf16) (idx : IVec S512x1 32) (w : Vec Ideal S32x256x512 .bf16) (n o : Fin 512) :
    result x idx w (ix2 n o) = served idx n fun e => product x w n e o := by
  pointwise [result]
  by_cases hk : ∃ e, Kept idx n e
  · obtain ⟨e, he⟩ := hk
    rw [(left_apply idx n).2 ⟨e, he⟩, served_of_kept he]
    refine (if_pos rfl).trans (Finset.sum_congr rfl fun i _ => ?_)
    rw [gather_apply _ _ n i o e (place_apply idx n e he.1)]
    rfl
  · rw [served_of_none hk]
    refine (if_neg fun h => hk ((left_apply idx n).1 h)).trans ?_
    exact Ideal.ofBits_zero_f32

end Cert.Exchange.Lookup

end
-- ==== Proof.Value.lean ====
/-
# The kernel computes what the reference computes

The devices' partial sums at a row, added up, are a sum over all 32 experts: device `p` brings experts `2 p` and `2 p + 1`, whose
matrices are its block of the weights. That sum is the output of the rule, and so is the reference's result.
-/
module

public import proofs.«01_k».proof.Defs
public import proofs.«01_k».proof.Proof.Frames
public import proofs.«01_k».proof.Proof.Choice
public import proofs.«01_k».proof.Proof.Lookup
public import Idealize.ShloMosaic.Lib.Layout

@[expose] public section

set_option maxRecDepth 16384

noncomputable section

namespace Cert.Exchange

open Cert.KernelIdeal Cert.KernelIdeal.Gen

open Idealize.ShloMosaic Idealize.SL.Sem
open Idealize.ShloMosaic.TcCoe

/-- Adding up over the devices and the two experts of each is adding up over all the experts. -/
theorem sum_experts (f : Fin 32 → EReal) : (∑ p : Fin 16, ∑ k : Fin 2, f (expertOf p k)) = ∑ e : Fin 32, f e := by
  refine (Fintype.sum_prod_type' fun (p : Fin 16) (k : Fin 2) => f (expertOf p k)).symm.trans ?_
  refine Eq.trans (Finset.sum_congr rfl fun q _ => congrArg f (Fin.ext ?_)) (Equiv.sum_comp (finProdFinEquiv (m := 16) (n := 2)) f)
  show 2 * q.1.val + q.2.val = q.2.val + 2 * q.1.val
  omega

/-- A product with an expert of a device's block of the weights is the product with that expert among all. -/
theorem product_block (x : (⟨2, ![512, 256]⟩ : Shape).Idx → EReal) (w : (⟨3, ![32, 256, 512]⟩ : Shape).Idx → EReal)
    (p : Fin 16) (k : Fin 2) (n o : Fin 512) :
    product x (Layout.block ⟨3, ![2, 256, 512]⟩ ⟨3, ![32, 256, 512]⟩ 0 16 p w) n k o = product x w n (expertOf p k) o := by
  refine Finset.sum_congr rfl fun i _ => ?_
  rw [Layout.block_apply]
  refine congrArg (fun z => x (ix2 n i) * w z) (funext fun a => Fin.ext ?_)
  match a with
  | ⟨0, _⟩ => show p.val * 2 + k.val = 2 * p.val + k.val; omega
  | ⟨1, _⟩ => rfl
  | ⟨2, _⟩ => rfl

variable (m : (ℓ : Loc nD τ sig) → Buf (Elt Ideal) ℓ) (ρ : Dev nD → PrngReg)

/-- From inputs laid out as stated, the result on device `c` is its block of the reference's result. -/
theorem outAt_eq (x : Vec Ideal S512x256 .bf16) (idx : IVec S512x1 32) (w : Vec Ideal ⟨3, ![32, 256, 512]⟩ .bf16)
    (hx : ∀ p : Dev nD, m ((p : Thread nD τ).loc main_arg0) = x) (hi : ∀ p : Dev nD, m ((p : Thread nD τ).loc main_arg2) = idx)
    (hw : ∀ p : Dev nD, m ((p : Thread nD τ).loc main_arg3) = Layout.block ⟨3, ![2, 256, 512]⟩ ⟨3, ![32, 256, 512]⟩ 0 16 p w)
    (c : Dev nD) : outAt m ρ c = Layout.block ⟨2, ![32, 512]⟩ ⟨2, ![512, 512]⟩ 0 16 c (Lookup.result x idx w) := by
  funext j
  obtain ⟨r, o, rfl⟩ : ∃ (r : Fin 32) (o : Fin 512), j = ix2 r o := ⟨j 0, j 1, eq_ix2 j⟩
  have hr : (Layout.block ⟨2, ![32, 512]⟩ ⟨2, ![512, 512]⟩ 0 16 c (Lookup.result x idx w)) (ix2 r o)
      = Lookup.result x idx w (ix2 (rowOf c r) o) := by
    rw [Layout.block_apply]
    refine congrArg (Lookup.result x idx w) (funext fun a => Fin.ext ?_)
    match a with
    | ⟨0, _⟩ => show c.val * 32 + r.val = 32 * c.val + r.val; omega
    | ⟨1, _⟩ => rfl
  rw [hr, outAt_apply, Lookup.result_apply, served, ← sum_experts]
  refine Finset.sum_congr rfl fun p _ => ?_
  rw [part_apply, xAt_eq, iAt_eq, wAt_eq, hx, hi, hw]
  exact Finset.sum_congr rfl fun k _ => if_congr Iff.rfl (product_block x w p k (rowOf c r) o) rfl

/-- Over the extended reals, every result the kernel can reach is, block by block, the reference's result. -/
theorem algebraic : Cert.algebraic_KernelIdeal_ReferenceIdeal := fun m g m' g' _ h =>
  ⟨Lookup.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun _ hr c => ⟨((hr.1 c).1).trans
      (outAt_eq m g _ _ _ (fun p => (h p).1) (fun p => (h p).2.2.1) (fun p => (h p).2.2.2) c), (hr.1 c).2⟩) (run_read (F := Ideal) m g),
    (θ_run Cert.ReferenceIdeal.defs _ _).mono (fun _ hr => hr 0) (Cert.ReferenceIdeal.Value.run (F := Ideal) m' g')⟩

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, the ideal kernel's being the kernel, and the equality of its result with the reference's. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.algebraic⟩

end Cert.Proof

end
